-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal__finite [hPre__finite : Cert.Pre__finite.Facts] (m : (ℓ : Loc Cert.KernelIdeal.nD Cert.KernelIdeal.τ Cert.KernelIdeal.sig) → Buf (Elt Ideal) ℓ) : Prop :=
  ∀ c : Dev Cert.KernelIdeal.nD,
    (Cert.Pre__finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal__finite [hPre__finite : Cert.Pre__finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre__finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre__finite [hKernelIdeal : Cert.KernelIdeal.Facts] [hPre__finite : Cert.Pre__finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal__finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre__finite [hReferenceIdeal : Cert.ReferenceIdeal.Facts] [hPre__finite : Cert.Pre__finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal__finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_d" .f32 0x3A638E39#32 ((1152⁻¹ : ℝ) : EReal)

def algebraic_KernelIdeal_ReferenceIdeal_pre__finite [hKernelIdeal : Cert.KernelIdeal.Facts] [hReferenceIdeal : Cert.ReferenceIdeal.Facts] [hPre__finite : Cert.Pre__finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal__finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v50_0) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre__finite : Cert.Pre__finite.Facts),
    quiescent_Kernel (hKernel := hKernel)
    ∧ quiescent_KernelIdeal (hKernelIdeal := hKernelIdeal)
    ∧ quiescent_KernelIdeal_pre__finite (hKernelIdeal := hKernelIdeal) (hPre__finite := hPre__finite)
    ∧ quiescent_ReferenceIdeal (hReferenceIdeal := hReferenceIdeal)
    ∧ quiescent_ReferenceIdeal_pre__finite (hReferenceIdeal := hReferenceIdeal) (hPre__finite := hPre__finite)
    ∧ preserves_Kernel_KernelIdeal
    ∧ algebraic_KernelIdeal_ReferenceIdeal_pre__finite (hKernelIdeal := hKernelIdeal) (hReferenceIdeal := hReferenceIdeal) (hPre__finite := hPre__finite)
-- ==== Pre__finite.lean ====
abbrev S6x3072x1152 : Shape := ⟨3, ![6, 3072, 1152]⟩
abbrev S6x1152 : Shape := ⟨2, ![6, 1152]⟩
abbrev S1152x16 : Shape := ⟨2, ![1152, 16]⟩
abbrev S16 : Shape := ⟨1, ![16]⟩
abbrev S3 : Shape := ⟨1, ![3]⟩
abbrev S3x4x96x128 : Shape := ⟨4, ![3, 4, 96, 128]⟩
abbrev S_ : Shape := ⟨0, ![]⟩

class Facts : Prop where
  bitsLt_bf16_f32 : FTy.bits .bf16 < FTy.bits .f32
  bcast_S_S6x3072x1152 : S_.BroadcastsInDim S6x3072x1152 (![] : Fin 0 → Fin S6x3072x1152.rank)
  reducesTo_S6x3072x1152_S_d0_1_2 : S6x3072x1152.ReducesTo [0, 1, 2] S_
  h_S_ : 0 < S_.numel
  bcast_S_S6x1152 : S_.BroadcastsInDim S6x1152 (![] : Fin 0 → Fin S6x1152.rank)
  reducesTo_S6x1152_S_d0_1 : S6x1152.ReducesTo [0, 1] S_

variable [Facts]

def fn {F : FTy → Type} [FloatOps F] (main_arg0 : FVec F S6x3072x1152 .bf16) (main_arg1 : FVec F S6x1152 .f32) (main_arg2 : FVec F S6x1152 .f32) (main_arg3 : FVec F S1152x16 .fp8e4m3) (main_arg4 : FVec F S16 .f32) (main_arg5 : FVec F S16 .f32) (main_arg6 : FVec F S3 .f32) (main_arg7 : FVec F S3 .f32) (main_arg8 : FVec F S3 .f32) (main_arg9 : FVec F S3x4x96x128 .f32) : IVec S_ 1 :=
  let main_v0 : FVec F S6x3072x1152 .f32 := (extf .f32 · bitsLt_bf16_f32) main_arg0
  let main_v1 : FVec F S6x3072x1152 .f32 := Host.absf main_v0
  let main_cst : FVec F S_ .f32 := constant S_ .f32 0x7F800000#32
  let main_v2 : FVec F S6x3072x1152 .f32 := broadcastInDim S6x3072x1152 ![] bcast_S_S6x3072x1152 main_cst
  let main_v3 : IVec S6x3072x1152 1 := cmpf .olt main_v1 main_v2
  let main_c : IVec S_ 1 := constantI S_ 1 1#1
  let main_v4 : IVec S_ 1 := (fun x v => Host.reduce IntOp.andi x v reducesTo_S6x3072x1152_S_d0_1_2 h_S_) main_v3 main_c
  let main_v5 : FVec F S6x1152 .f32 := Host.absf main_arg1
  let main_cst_0 : FVec F S_ .f32 := constant S_ .f32 0x7F7FFFFF#32
  let main_v6 : FVec F S6x1152 .f32 := broadcastInDim S6x1152 ![] bcast_S_S6x1152 main_cst_0
  let main_v7 : IVec S6x1152 1 := cmpf .ole main_v5 main_v6
  let main_c_1 : IVec S_ 1 := constantI S_ 1 1#1
  let main_v8 : IVec S_ 1 := (fun x v => Host.reduce IntOp.andi x v reducesTo_S6x1152_S_d0_1 h_S_) main_v7 main_c_1
  let main_v9 : IVec S_ 1 := andi main_v4 main_v8
  let main_v10 : FVec F S6x1152 .f32 := Host.absf main_arg2
  let main_cst_2 : FVec F S_ .f32 := constant S_ .f32 0x7F7FFFFF#32
  let main_v11 : FVec F S6x1152 .f32 := broadcastInDim S6x1152 ![] bcast_S_S6x1152 main_cst_2
  let main_v12 : IVec S6x1152 1 := cmpf .ole main_v10 main_v11
  let main_c_3 : IVec S_ 1 := constantI S_ 1 1#1
  let main_v13 : IVec S_ 1 := (fun x v => Host.reduce IntOp.andi x v reducesTo_S6x1152_S_d0_1 h_S_) main_v12 main_c_3
  let main_v14 : IVec S_ 1 := andi main_v9 main_v13
  main_v14
-- ==== Kernel.lean ====
abbrev S6x3072x1152 : Shape := ⟨3, ![6, 3072, 1152]⟩
abbrev S6x1152 : Shape := ⟨2, ![6, 1152]⟩
abbrev S1152x16 : Shape := ⟨2, ![1152, 16]⟩
abbrev S16 : Shape := ⟨1, ![16]⟩
abbrev S3 : Shape := ⟨1, ![3]⟩
abbrev S3x4x96x128 : Shape := ⟨4, ![3, 4, 96, 128]⟩
abbrev S2x3x3072x1152 : Shape := ⟨4, ![2, 3, 3072, 1152]⟩
abbrev S2x3x1x1152 : Shape := ⟨4, ![2, 3, 1, 1152]⟩
abbrev S1x3 : Shape := ⟨2, ![1, 3]⟩
abbrev S3x3 : Shape := ⟨2, ![3, 3]⟩
abbrev S16x1152 : Shape := ⟨2, ![16, 1152]⟩
abbrev S16x1 : Shape := ⟨2, ![16, 1]⟩
abbrev S2x3x36x3072 : Shape := ⟨4, ![2, 3, 36, 3072]⟩
abbrev S2x1x256x1152 : Shape := ⟨4, ![2, 1, 256, 1152]⟩
abbrev S2x1x1x1152 : Shape := ⟨4, ![2, 1, 1, 1152]⟩
abbrev S1x4x8x128 : Shape := ⟨4, ![1, 4, 8, 128]⟩
abbrev S2x1x36x256 : Shape := ⟨4, ![2, 1, 36, 256]⟩
abbrev S2x1152x16 : Shape := ⟨3, ![2, 1152, 16]⟩
abbrev S2x1152x128 : Shape := ⟨3, ![2, 1152, 128]⟩
abbrev S2x2x1152x128 : Shape := ⟨4, ![2, 2, 1152, 128]⟩
abbrev S1152x128 : Shape := ⟨2, ![1152, 128]⟩
abbrev S16x128 : Shape := ⟨2, ![16, 128]⟩
abbrev S1x1x1x1152 : Shape := ⟨4, ![1, 1, 1, 1152]⟩
abbrev S1x1152 : Shape := ⟨2, ![1, 1152]⟩
abbrev S4x1152 : Shape := ⟨2, ![4, 1152]⟩
abbrev S1x128 : Shape := ⟨2, ![1, 128]⟩
abbrev S128x128 : Shape := ⟨2, ![128, 128]⟩
abbrev S1x128x128 : Shape := ⟨3, ![1, 128, 128]⟩
abbrev S128x16 : Shape := ⟨2, ![128, 16]⟩
abbrev S1x128x16 : Shape := ⟨3, ![1, 128, 16]⟩
abbrev S8x128 : Shape := ⟨2, ![8, 128]⟩
abbrev S1x1 : Shape := ⟨2, ![1, 1]⟩
abbrev S1x1x128x128 : Shape := ⟨4, ![1, 1, 128, 128]⟩
abbrev S1x1x1152x128 : Shape := ⟨4, ![1, 1, 1152, 128]⟩
abbrev S128 : Shape := ⟨1, ![128]⟩
abbrev S4x128 : Shape := ⟨2, ![4, 128]⟩
abbrev S4x32x128 : Shape := ⟨3, ![4, 32, 128]⟩
abbrev S255x4x128 : Shape := ⟨3, ![255, 4, 128]⟩
abbrev S1x4x128 : Shape := ⟨3, ![1, 4, 128]⟩
abbrev S1x1x4x128 : Shape := ⟨4, ![1, 1, 4, 128]⟩
abbrev S4x1x128 : Shape := ⟨3, ![4, 1, 128]⟩
abbrev S8x128x1 : Shape := ⟨3, ![8, 128, 1]⟩
abbrev S1x4x1x128 : Shape := ⟨4, ![1, 4, 1, 128]⟩
abbrev S6x36x3072 : Shape := ⟨3, ![6, 36, 3072]⟩
abbrev S6x3072x36 : Shape := ⟨3, ![6, 3072, 36]⟩

abbrev nBuf : Space → Nat
  | .hbm => 28
  | .vmem => 26
  | .smem => 1
  | _ => 0

abbrev bufTy : (tb : Table) → Fin (tcTables nBuf tb) → BufTy
  | .hbm, ⟨0, _⟩ => ⟨S6x3072x1152, .bf16⟩
  | .hbm, ⟨1, _⟩ => ⟨S6x1152, .f32⟩
  | .hbm, ⟨2, _⟩ => ⟨S6x1152, .f32⟩
  | .hbm, ⟨3, _⟩ => ⟨S1152x16, .fp8e4m3⟩
  | .hbm, ⟨4, _⟩ => ⟨S16, .f32⟩
  | .hbm, ⟨5, _⟩ => ⟨S16, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S3x4x96x128, .f32⟩
  | .hbm, ⟨10, _⟩ => ⟨S2x3x3072x1152, .bf16⟩
  | .hbm, ⟨11, _⟩ => ⟨S2x3x1x1152, .f32⟩
  | .hbm, ⟨12, _⟩ => ⟨S2x3x1x1152, .f32⟩
  | .hbm, ⟨13, _⟩ => ⟨S1x3, .f32⟩
  | .hbm, ⟨14, _⟩ => ⟨S1x3, .f32⟩
  | .hbm, ⟨15, _⟩ => ⟨S1x3, .f32⟩
  | .hbm, ⟨16, _⟩ => ⟨S3x3, .f32⟩
  | .hbm, ⟨17, _⟩ => ⟨S16x1152, .fp8e4m3⟩
  | .hbm, ⟨18, _⟩ => ⟨S16x1, .f32⟩
  | .hbm, ⟨19, _⟩ => ⟨S16x1, .f32⟩
  | .hbm, ⟨20, _⟩ => ⟨S3x4x96x128, .f32⟩
  | .hbm, ⟨21, _⟩ => ⟨S3x4x96x128, .f32⟩
  | .hbm, ⟨22, _⟩ => ⟨S2x3x3072x1152, .fp8e4m3⟩
  | .hbm, ⟨23, _⟩ => ⟨S2x3x36x3072, .f32⟩
  | .hbm, ⟨24, _⟩ => ⟨S6x3072x1152, .fp8e4m3⟩
  | .hbm, ⟨25, _⟩ => ⟨S6x36x3072, .f32⟩
  | .hbm, ⟨26, _⟩ => ⟨S6x3072x36, .f32⟩
  | .hbm, ⟨27, _⟩ => ⟨S3x4x96x128, .bf16⟩
  | .local _ .vmem, ⟨0, _⟩ => ⟨S2x1x256x1152, .bf16⟩
  | .local _ .vmem, ⟨1, _⟩ => ⟨S2x1x256x1152, .bf16⟩
  | .local _ .vmem, ⟨2, _⟩ => ⟨S2x1x1x1152, .f32⟩
  | .local _ .vmem, ⟨3, _⟩ => ⟨S2x1x1x1152, .f32⟩
  | .local _ .vmem, ⟨4, _⟩ => ⟨S2x1x1x1152, .f32⟩
  | .local _ .vmem, ⟨5, _⟩ => ⟨S2x1x1x1152, .f32⟩
  | .local _ .vmem, ⟨6, _⟩ => ⟨S16x1152, .fp8e4m3⟩
  | .local _ .vmem, ⟨7, _⟩ => ⟨S16x1, .f32⟩
  | .local _ .vmem, ⟨8, _⟩ => ⟨S16x1, .f32⟩
  | .local _ .vmem, ⟨9, _⟩ => ⟨S1x4x8x128, .f32⟩
  | .local _ .vmem, ⟨10, _⟩ => ⟨S1x4x8x128, .f32⟩
  | .local _ .vmem, ⟨11, _⟩ => ⟨S1x4x8x128, .f32⟩
  | .local _ .vmem, ⟨12, _⟩ => ⟨S1x4x8x128, .f32⟩
  | .local _ .vmem, ⟨13, _⟩ => ⟨S1x4x8x128, .f32⟩
  | .local _ .vmem, ⟨14, _⟩ => ⟨S1x4x8x128, .f32⟩
  | .local _ .vmem, ⟨15, _⟩ => ⟨S2x1x256x1152, .fp8e4m3⟩
  | .local _ .vmem, ⟨16, _⟩ => ⟨S2x1x256x1152, .fp8e4m3⟩
  | .local _ .vmem, ⟨17, _⟩ => ⟨S2x1x36x256, .f32⟩
  | .local _ .vmem, ⟨18, _⟩ => ⟨S2x1x36x256, .f32⟩
  | .local _ .vmem, ⟨19, _⟩ => ⟨S2x1152x16, .bf16⟩
  | .local _ .vmem, ⟨20, _⟩ => ⟨S2x1152x128, .f32⟩
  | .local _ .vmem, ⟨21, _⟩ => ⟨S2x2x1152x128, .bf16⟩
  | .local _ .vmem, ⟨22, _⟩ => ⟨S1152x128, .f32⟩
  | .local _ .vmem, ⟨23, _⟩ => ⟨S1152x128, .fp8e4m3⟩
  | .local _ .vmem, ⟨24, _⟩ => ⟨S2x2x1152x128, .bf16⟩
  | .local _ .vmem, ⟨25, _⟩ => ⟨S16x128, .bf16⟩
  | .local _ .smem, ⟨0, _⟩ => ⟨S3x3, .f32⟩
  | _, _ => ⟨S6x3072x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![3, 12], ![false, false]⟩

def k0_off1 (i : grid0.Coords) : Fin 2 → Nat :=
  let c0 : Index := 0#32
  let arg0 : BitVec 32 := BitVec.ofNat 32 (i 0).val
  let v11 : Index := Scalar.indexCast arg0
  ![0, v11.toNat]
def k0_off2 (i : grid0.Coords) : Fin 2 → Nat :=
  let c2 : Index := 2#32
  let arg0 : BitVec 32 := BitVec.ofNat 32 (i 0).val
  let v13 : Index := Scalar.indexCast arg0
  ![2, v13.toNat]
def k0_off3 (i : grid0.Coords) : Fin 2 → Nat :=
  let c1 : Index := 1#32
  let arg0 : BitVec 32 := BitVec.ofNat 32 (i 0).val
  let v15 : Index := Scalar.indexCast arg0
  ![1, v15.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 1 → Memref sig .tc .smem S3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x1x256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x256x1152 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x36x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "inv_d" => some ((1152⁻¹ : ℝ) : EReal)
  | _ => none
-- ==== ReferenceIdeal.lean ====
abbrev S6x3072x1152 : Shape := ⟨3, ![6, 3072, 1152]⟩
abbrev S6x1152 : Shape := ⟨2, ![6, 1152]⟩
abbrev S1152x16 : Shape := ⟨2, ![1152, 16]⟩
abbrev S16 : Shape := ⟨1, ![16]⟩
abbrev S3 : Shape := ⟨1, ![3]⟩
abbrev S3x4x96x128 : Shape := ⟨4, ![3, 4, 96, 128]⟩
abbrev S_ : Shape := ⟨0, ![]⟩
abbrev S6x3072 : Shape := ⟨2, ![6, 3072]⟩
abbrev S6x3072x1 : Shape := ⟨3, ![6, 3072, 1]⟩
abbrev S6x1x1152 : Shape := ⟨3, ![6, 1, 1152]⟩
abbrev S6x3072x36x32 : Shape := ⟨4, ![6, 3072, 36, 32]⟩
abbrev S6x3072x36 : Shape := ⟨3, ![6, 3072, 36]⟩
abbrev S6x3072x36x1 : Shape := ⟨4, ![6, 3072, 36, 1]⟩
abbrev S6x3072x16 : Shape := ⟨3, ![6, 3072, 16]⟩
abbrev S1x1x16 : Shape := ⟨3, ![1, 1, 16]⟩
abbrev S3x3072x16 : Shape := ⟨3, ![3, 3072, 16]⟩
abbrev S3x1x1 : Shape := ⟨3, ![3, 1, 1]⟩
abbrev S3x48x64x2x2x4 : Shape := ⟨6, ![3, 48, 64, 2, 2, 4]⟩
abbrev S3x4x48x2x64x2 : Shape := ⟨6, ![3, 4, 48, 2, 64, 2]⟩
abbrev S3x1x1x1 : Shape := ⟨4, ![3, 1, 1, 1]⟩

abbrev nBuf : Space → Nat
  | .hbm => 115
  | .vmem => 5
  | .smem => 0
  | _ => 0

abbrev bufTy : (tb : Table) → Fin (tcTables nBuf tb) → BufTy
  | .hbm, ⟨0, _⟩ => ⟨S6x3072x1152, .bf16⟩
  | .hbm, ⟨1, _⟩ => ⟨S6x1152, .f32⟩
  | .hbm, ⟨2, _⟩ => ⟨S6x1152, .f32⟩
  | .hbm, ⟨3, _⟩ => ⟨S1152x16, .fp8e4m3⟩
  | .hbm, ⟨4, _⟩ => ⟨S16, .f32⟩
  | .hbm, ⟨5, _⟩ => ⟨S16, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S3x4x96x128, .f32⟩
  | .hbm, ⟨10, _⟩ => ⟨S6x3072x1152, .f32⟩
  | .hbm, ⟨11, _⟩ => ⟨S_, .f32⟩
  | .hbm, ⟨12, _⟩ => ⟨S6x3072, .f32⟩
  | .hbm, ⟨13, _⟩ => ⟨S6x3072x1, .f32⟩
  | .hbm, ⟨14, _⟩ => ⟨S_, .f32⟩
  | .hbm, ⟨15, _⟩ => ⟨S6x3072x1, .f32⟩
  | .hbm, ⟨16, _⟩ => ⟨S6x3072x1, .f32⟩
  | .hbm, ⟨17, _⟩ => ⟨S6x3072x1152, .f32⟩
  | .hbm, ⟨18, _⟩ => ⟨S6x3072x1152, .f32⟩
  | .hbm, ⟨19, _⟩ => ⟨S6x3072x1152, .f32⟩
  | .hbm, ⟨20, _⟩ => ⟨S_, .f32⟩
  | .hbm, ⟨21, _⟩ => ⟨S6x3072, .f32⟩
  | .hbm, ⟨22, _⟩ => ⟨S6x3072x1, .f32⟩
  | .hbm, ⟨23, _⟩ => ⟨S_, .f32⟩
  | .hbm, ⟨24, _⟩ => ⟨S6x3072x1, .f32⟩
  | .hbm, ⟨25, _⟩ => ⟨S6x3072x1, .f32⟩
  | .hbm, ⟨26, _⟩ => ⟨S_, .f32⟩
  | .hbm, ⟨27, _⟩ => ⟨S6x3072x1, .f32⟩
  | .hbm, ⟨28, _⟩ => ⟨S6x3072x1, .f32⟩
  | .hbm, ⟨29, _⟩ => ⟨S6x3072x1, .f32⟩
  | .hbm, ⟨30, _⟩ => ⟨S6x3072x1152, .f32⟩
  | .hbm, ⟨31, _⟩ => ⟨S6x3072x1152, .f32⟩
  | .hbm, ⟨32, _⟩ => ⟨S6x1x1152, .f32⟩
  | .hbm, ⟨33, _⟩ => ⟨S_, .f32⟩
  | .hbm, ⟨34, _⟩ => ⟨S6x1x1152, .f32⟩
  | .hbm, ⟨35, _⟩ => ⟨S6x1x1152, .f32⟩
  | .hbm, ⟨36, _⟩ => ⟨S6x3072x1152, .f32⟩
  | .hbm, ⟨37, _⟩ => ⟨S6x3072x1152, .f32⟩
  | .hbm, ⟨38, _⟩ => ⟨S6x1x1152, .f32⟩
  | .hbm, ⟨39, _⟩ => ⟨S6x3072x1152, .f32⟩
  | .hbm, ⟨40, _⟩ => ⟨S6x3072x1152, .f32⟩
  | .hbm, ⟨41, _⟩ => ⟨S6x3072x36x32, .f32⟩
  | .hbm, ⟨42, _⟩ => ⟨S6x3072x36x32, .f32⟩
  | .hbm, ⟨43, _⟩ => ⟨S_, .f32⟩
  | .hbm, ⟨44, _⟩ => ⟨S6x3072x36, .f32⟩
  | .hbm, ⟨45, _⟩ => ⟨S_, .f32⟩
  | .hbm, ⟨46, _⟩ => ⟨S6x3072x36, .f32⟩
  | .hbm, ⟨47, _⟩ => ⟨S6x3072x36, .f32⟩
  | .hbm, ⟨48, _⟩ => ⟨S6x3072x36, .f32⟩
  | .hbm, ⟨49, _⟩ => ⟨S_, .f32⟩
  | .hbm, ⟨50, _⟩ => ⟨S_, .f32⟩
  | .hbm, ⟨51, _⟩ => ⟨S6x3072x36, .f32⟩
  | .hbm, ⟨52, _⟩ => ⟨S6x3072x36, .f32⟩
  | .hbm, ⟨53, _⟩ => ⟨S6x3072x36, .f32⟩
  | .hbm, ⟨54, _⟩ => ⟨S_, .f32⟩
  | .hbm, ⟨55, _⟩ => ⟨S6x3072x36, .f32⟩
  | .hbm, ⟨56, _⟩ => ⟨S6x3072x36, .f32⟩
  | .hbm, ⟨57, _⟩ => ⟨S_, .f32⟩
  | .hbm, ⟨58, _⟩ => ⟨S6x3072x36, .f32⟩
  | .hbm, ⟨59, _⟩ => ⟨S6x3072x36, .i1⟩
  | .hbm, ⟨60, _⟩ => ⟨S_, .f32⟩
  | .hbm, ⟨61, _⟩ => ⟨S_, .f32⟩
  | .hbm, ⟨62, _⟩ => ⟨S6x3072x36, .f32⟩
  | .hbm, ⟨63, _⟩ => ⟨S6x3072x36, .f32⟩
  | .hbm, ⟨64, _⟩ => ⟨S_, .f32⟩
  | .hbm, ⟨65, _⟩ => ⟨S6x3072x36, .f32⟩
  | .hbm, ⟨66, _⟩ => ⟨S6x3072x36, .f32⟩
  | .hbm, ⟨67, _⟩ => ⟨S6x3072x36, .f32⟩
  | .hbm, ⟨68, _⟩ => ⟨S_, .f32⟩
  | .hbm, ⟨69, _⟩ => ⟨S6x3072x36, .f32⟩
  | .hbm, ⟨70, _⟩ => ⟨S6x3072x36, .f32⟩
  | .hbm, ⟨71, _⟩ => ⟨S6x3072x36x1, .f32⟩
  | .hbm, ⟨72, _⟩ => ⟨S6x3072x36x32, .f32⟩
  | .hbm, ⟨73, _⟩ => ⟨S6x3072x36x32, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S6x3072x36x32, .f32⟩
  | .hbm, ⟨78, _⟩ => ⟨S6x3072x36x32, .f32⟩
  | .hbm, ⟨79, _⟩ => ⟨S_, .f32⟩
  | .hbm, ⟨80, _⟩ => ⟨S6x3072x36x32, .f32⟩
  | .hbm, ⟨81, _⟩ => ⟨S6x3072x36x32, .f32⟩
  | .hbm, ⟨82, _⟩ => ⟨S6x3072x1152, .f32⟩
  | .hbm, ⟨83, _⟩ => ⟨S6x3072x1152, .fp8e4m3⟩
  | .hbm, ⟨84, _⟩ => ⟨S6x3072x1152, .bf16⟩
  | .hbm, ⟨85, _⟩ => ⟨S1152x16, .bf16⟩
  | .hbm, ⟨86, _⟩ => ⟨S6x3072x36x32, .bf16⟩
  | .hbm, ⟨87, _⟩ => ⟨S6x3072x36, .bf16⟩
  | .hbm, ⟨88, _⟩ => ⟨S6x3072x36x1, .bf16⟩
  | .hbm, ⟨89, _⟩ => ⟨S6x3072x36x32, .bf16⟩
  | .hbm, ⟨90, _⟩ => ⟨S6x3072x36x32, .bf16⟩
  | .hbm, ⟨91, _⟩ => ⟨S6x3072x1152, .bf16⟩
  | .hbm, ⟨92, _⟩ => ⟨S6x3072x16, .f32⟩
  | .hbm, ⟨93, _⟩ => ⟨S1x1x16, .f32⟩
  | .hbm, ⟨94, _⟩ => ⟨S6x3072x16, .f32⟩
  | .hbm, ⟨95, _⟩ => ⟨S6x3072x16, .f32⟩
  | .hbm, ⟨96, _⟩ => ⟨S1x1x16, .f32⟩
  | .hbm, ⟨97, _⟩ => ⟨S6x3072x16, .f32⟩
  | .hbm, ⟨98, _⟩ => ⟨S6x3072x16, .f32⟩
  | .hbm, ⟨99, _⟩ => ⟨S3x3072x16, .f32⟩
  | .hbm, ⟨100, _⟩ => ⟨S3x3072x16, .f32⟩
  | .hbm, ⟨101, _⟩ => ⟨S3x1x1, .f32⟩
  | .hbm, ⟨102, _⟩ => ⟨S3x3072x16, .f32⟩
  | .hbm, ⟨103, _⟩ => ⟨S3x3072x16, .f32⟩
  | .hbm, ⟨104, _⟩ => ⟨S3x3072x16, .f32⟩
  | .hbm, ⟨105, _⟩ => ⟨S3x3072x16, .f32⟩
  | .hbm, ⟨106, _⟩ => ⟨S3x48x64x2x2x4, .f32⟩
  | .hbm, ⟨107, _⟩ => ⟨S3x4x48x2x64x2, .f32⟩
  | .hbm, ⟨108, _⟩ => ⟨S3x4x96x128, .f32⟩
  | .hbm, ⟨109, _⟩ => ⟨S3, .f32⟩
  | .hbm, ⟨110, _⟩ => ⟨S3x1x1x1, .f32⟩
  | .hbm, ⟨111, _⟩ => ⟨S3x4x96x128, .f32⟩
  | .hbm, ⟨112, _⟩ => ⟨S3x4x96x128, .f32⟩
  | .hbm, ⟨113, _⟩ => ⟨S3x4x96x128, .f32⟩
  | .hbm, ⟨114, _⟩ => ⟨S3x4x96x128, .bf16⟩
  | .local _ .vmem, ⟨0, _⟩ => ⟨S6x3072x1152, .f32⟩
  | .local _ .vmem, ⟨1, _⟩ => ⟨S1152x16, .fp8e4m3⟩
  | .local _ .vmem, ⟨2, _⟩ => ⟨S6x3072x1152, .fp8e4m3⟩
  | .local _ .vmem, ⟨3, _⟩ => ⟨S6x3072x1152, .bf16⟩
  | .local _ .vmem, ⟨4, _⟩ => ⟨S1152x16, .bf16⟩
  | _, _ => ⟨S6x3072x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_call0_v0 : Ref sig .tc := ⟨.hbm, 61, rfl⟩
abbrev main_call0_v1 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_cst_14 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v48 : Ref sig .tc := ⟨.hbm, 81, rfl⟩
abbrev main_v49 : Ref sig .tc := ⟨.hbm, 82, rfl⟩
abbrev main_v50_0 : Ref sig .tc := ⟨.hbm, 83, rfl⟩
abbrev main_v50_1 : Ref sig .tc := ⟨.hbm, 84, rfl⟩
abbrev main_v50_2 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x3072x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x16 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x3072x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x3072x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1152x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Stage.lean ====
module

public import proofs.«01_k».proof.Proof.Gen.KernelIdeal.Frame

@[expose] public section

set_option maxRecDepth 16384

noncomputable section

/-!
The kernel's body, written once for any half of the batch, any half of the tile and any chunk of columns:
what the body does as functions of the vectors it loads. The generated run names every operation by itself;
the modules after this one identify the run's stores with the functions here by definitional unfolding.
-/

namespace Cert.Hand

open Idealize.ShloMosaic Idealize.ShloMosaic.TcCoe Idealize.SL.Sem
open Cert.KernelIdeal Cert.KernelIdeal.Gen

variable {F : FTy → Type} [FloatOps F] [Named F]

/-! ## Token statistics -/

/-- The running sum of sixteen-row groups, each multiplied by ones. -/
def st1 (o : FVec F S16x128 .bf16) (X : ℕ → FVec F S16x128 .bf16) : ℕ → FVec F S16x128 .f32
  | 0 => mulf (extf .f32 (X 0) bitsLt_bf16_f32) (extf .f32 o bitsLt_bf16_f32)
  | n + 1 => addf (st1 o X n) (mulf (extf .f32 (X (n + 1)) bitsLt_bf16_f32) (extf .f32 o bitsLt_bf16_f32))

/-- The running sum of the squares of sixteen-row groups. -/
def st2 (X : ℕ → FVec F S16x128 .bf16) : ℕ → FVec F S16x128 .f32
  | 0 => mulf (extf .f32 (X 0) bitsLt_bf16_f32) (extf .f32 (X 0) bitsLt_bf16_f32)
  | n + 1 => addf (st2 X n) (mulf (extf .f32 (X (n + 1)) bitsLt_bf16_f32) (extf .f32 (X (n + 1)) bitsLt_bf16_f32))

/-- The sum over the rows times the reciprocal of the width. -/
def muS (s : FVec F S16x128 .f32) : FVec F S1x128 .f32 :=
  mulf (shapeCast S1x128 (multiReduction .add [0] S128 s 0x00000000#32 reduces_S16x128_S128 (.inl rfl) rfl) shapeCasts_S128_S1x128)
    (broadcast S1x128 (Named.named κ "inv_d" 0x3A638E39#32))

/-- One-pass variance, not below zero, plus epsilon. -/
def varS (s1 s2 : FVec F S16x128 .f32) : FVec F S1x128 .f32 :=
  addf (maximumf (subf (muS s2) (mulf (muS s1) (muS s1))) (broadcast S1x128 (Scalar.ofBits .f32 0x00000000#32)))
    (broadcast S1x128 (Scalar.ofBits .f32 0x358637BD#32))

def rsS (s1 s2 : FVec F S16x128 .f32) : FVec F S1x128 .f32 := rsqrt (varS s1 s2)

def sgS (s1 s2 : FVec F S16x128 .f32) : FVec F S1x128 .f32 := mulf (varS s1 s2) (rsS s1 s2)

/-- The three bf16 terms a float splits into. -/
def sp1 {S : Shape} (v : FVec F S .f32) : FVec F S .bf16 := truncf .bf16 v bitsLt_bf16_f32
def rem1 {S : Shape} (v : FVec F S .f32) : FVec F S .f32 := subf v (extf .f32 (sp1 v) bitsLt_bf16_f32)
def sp2 {S : Shape} (v : FVec F S .f32) : FVec F S .bf16 := truncf .bf16 (rem1 v) bitsLt_bf16_f32
def sp3 {S : Shape} (v : FVec F S .f32) : FVec F S .bf16 :=
  truncf .bf16 (subf (rem1 v) (extf .f32 (sp2 v) bitsLt_bf16_f32)) bitsLt_bf16_f32
def up {S : Shape} (v : FVec F S .bf16) : FVec F S .f32 := extf .f32 v bitsLt_bf16_f32

/-- The sixteen rows the shift's product multiplies: the terms of sigma and of the mean. -/
def bmS (sg mu : FVec F S1x128 .f32) : FVec F S16x128 .bf16 :=
  truncf .bf16 (concatenate S16x128 0
    [⟨S1x128, up (sp1 sg)⟩, ⟨S1x128, up (sp2 sg)⟩, ⟨S1x128, up (sp3 sg)⟩, ⟨S1x128, up (sp1 sg)⟩, ⟨S1x128, up (sp2 sg)⟩, ⟨S1x128, up (sp1 sg)⟩,
     ⟨S1x128, up (sp1 mu)⟩, ⟨S1x128, up (sp2 mu)⟩, ⟨S1x128, up (sp3 mu)⟩, ⟨S1x128, up (sp1 mu)⟩, ⟨S1x128, up (sp2 mu)⟩, ⟨S1x128, up (sp1 mu)⟩,
     ⟨S4x128, broadcast S4x128 (Scalar.ofBits .f32 0x00000000#32)⟩]
    concatenates_S1x128_S1x128_S1x128_S1x128_S1x128_S1x128_S1x128_S1x128_S1x128_S1x128_S1x128_S1x128_S4x128_S16x128_d0)
    bitsLt_bf16_f32

/-! ## One chunk of columns -/

/-- The modulated values before the division by the standard deviation. -/
def zT (xa : FVec F S128x128 .bf16) (g : Vec F S1x128x128 .f32) (a : Vec F S1x128x16 .bf16) (bm : FVec F S16x128 .bf16) : FVec F S128x128 .f32 :=
  addf (mulf (extf .f32 xa bitsLt_bf16_f32) (shapeCast S128x128 g shapeCasts_S1x128x128_S128x128))
    (matmul dot_S128x16_S16x128_S128x128_1_0_0_1_n_n none (shapeCast S128x16 a shapeCasts_S1x128x16_S128x16) bm (constant S128x128 .f32 0x00000000#32))

/-- The block maxima scaled to the largest code. -/
def yT (z : FVec F S128x128 .f32) (rs : FVec F S1x128 .f32) : FVec F S4x128 .f32 :=
  mulf (mulf (multiReduction .maximumf [1] S4x128 (absf (shapeCast S4x32x128 z shapeCasts_S128x128_S4x32x128)) 0xFF800000#32 reduces_S4x32x128_S4x128 (.inl rfl) rfl)
    (broadcastTo S4x128 rs broadcasts_S1x128_S4x128)) (broadcast S4x128 (Scalar.ofBits .f32 0x3B124925#32))

/-- The count of powers of two not above. -/
def eT (y : FVec F S4x128 .f32) : IVec S4x128 32 :=
  multiReductionI .add [0] S4x128 (extui 32 (cmpf .oge
    (broadcastTo S255x4x128 (shapeCast S1x4x128 y shapeCasts_S4x128_S1x4x128) broadcasts_S1x4x128_S255x4x128)
    (bitcastToFloat (F := F) .f32 (shli (addi (iota .tc S255x4x128 32 [0] iota_S255x4x128_d0_w32) (broadcast S255x4x128 1#32)) (broadcast S255x4x128 23#32)))) natLt_1_32)
    0#32 reduces_S255x4x128_S4x128 rfl

/-- The scale, by its exponent field. -/
def scT (e : IVec S4x128 32) : FVec F S4x128 .f32 :=
  bitcastToFloat .f32 (shli (select (cmpi .eq e (broadcast S4x128 0#32)) (broadcast S4x128 127#32) (addi e (broadcast S4x128 1#32))) (broadcast S4x128 23#32))

/-- The reciprocal scale, by its exponent field. -/
def ivT (e : IVec S4x128 32) : FVec F S4x128 .f32 :=
  bitcastToFloat .f32 (shli (select (cmpi .eq e (broadcast S4x128 0#32)) (broadcast S4x128 127#32) (subi (broadcast S4x128 253#32) e)) (broadcast S4x128 23#32))

/-- The codes, channel by token. -/
def codeT (z : FVec F S128x128 .f32) (rs : FVec F S1x128 .f32) (e : IVec S4x128 32) : FVec F S128x128 .fp8e4m3 :=
  truncf .fp8e4m3 (minimumf (broadcast S128x128 (Scalar.ofBits .f32 0x43E00000#32)) (maximumf (broadcast S128x128 (Scalar.ofBits .f32 0xC3E00000#32))
    (shapeCast S128x128 (mulf (shapeCast S4x32x128 z shapeCasts_S128x128_S4x32x128)
      (broadcastTo S4x32x128 (shapeCast S4x1x128 (mulf (broadcastTo S4x128 rs broadcasts_S1x128_S4x128) (ivT e)) shapeCasts_S4x128_S4x1x128) broadcasts_S4x1x128_S4x32x128))
      shapeCasts_S4x32x128_S128x128))) bitsLt_fp8e4m3_f32

/-- The dequantised values the projection multiplies. -/
def xwT (q : FVec F S128x128 .fp8e4m3) (e : IVec S4x128 32) : FVec F S128x128 .bf16 :=
  mulf (extf .bf16 q bitsLt_fp8e4m3_bf16) (truncf .bf16 (shapeCast S128x128
    (broadcastTo S4x32x128 (shapeCast S4x1x128 (shapeCast S4x1x128 (scT e) shapeCasts_S4x128_S4x1x128) shapeCasts_S4x1x128_S4x1x128) broadcasts_S4x1x128_S4x32x128)
    shapeCasts_S4x32x128_S128x128) bitsLt_bf16_f32)

/-! ## The projection and the images -/

def yU (w : Vec F S16x1152 .fp8e4m3) (ws bo : Vec F S16x1 .f32) (xw : Vec F S1x1x1152x128 .bf16) : FVec F S16x128 .f32 :=
  addf (mulf (matmul dot_S16x1152_S1152x128_S16x128_1_0_0_1_n_n none (extf .bf16 (shapeCast S16x1152 w shapeCasts_S16x1152_S16x1152) bitsLt_fp8e4m3_bf16)
      (shapeCast S1152x128 xw shapeCasts_S1x1x1152x128_S1152x128) (constant S16x128 .f32 0x00000000#32))
    (broadcastTo S16x128 (shapeCast S16x1 ws shapeCasts_S16x1_S16x1) broadcasts_S16x1_S16x128))
    (broadcastTo S16x128 (shapeCast S16x1 bo shapeCasts_S16x1_S16x1) broadcasts_S16x1_S16x128)

/-- Guidance: from the second half's value towards the first's. -/
def vU (gd : F .f32) (y0 y1 : FVec F S16x128 .f32) : FVec F S16x128 .f32 :=
  addf y1 (mulf (broadcast S16x128 gd) (subf y0 y1))

/-- Half the lane number, plus an offset, as the gather's index. -/
def gix (o : FVec F S8x128 .f32) (k : IVec S8x128 32) : FVec F S8x128 .f32 :=
  dynamicGather 1 o (shapeCast S8x128 (shapeCast S8x128x1
    (select (cmpi .slt k (broadcast S8x128 0#32)) (addi k (broadcast S8x128 128#32)) k) shapeCasts_S8x128_S8x128x1) shapeCasts_S8x128x1_S8x128)

def lane2 : IVec S8x128 32 := shrsi (iota .tc S8x128 32 [1] iota_S8x128_d1_w32) (broadcast S8x128 1#32)
def evenL : IVec S8x128 1 := cmpi .eq (andi (iota .tc S8x128 32 [1] iota_S8x128_d1_w32) (broadcast S8x128 1#32)) (broadcast S8x128 0#32)

/-- Eight rows of tokens unpatched to two rows of four channels of the image. -/
def imgT (vp : FVec F S8x128 .f32) : FVec F S8x128 .f32 :=
  select (cmpi .slt (iota .tc S8x128 32 [0] iota_S8x128_d0_w32) (broadcast S8x128 4#32))
    (select evenL (gix vp lane2) (dynamicRotate 0 4#32 none (gix vp lane2) rotates_S8x128_d0))
    (select evenL (dynamicRotate 0 4#32 none (gix vp (addi lane2 (broadcast S8x128 64#32))) rotates_S8x128_d0) (gix vp (addi lane2 (broadcast S8x128 64#32))))

def half (pi : ℕ) (v : FVec F S16x128 .f32) : FVec F S8x128 .f32 :=
  match pi with
  | 0 => extractStridedSlice S8x128 ![0, 0] v slices_S16x128_o0_0_S8x128
  | _ + 1 => extractStridedSlice S8x128 ![8, 0] v slices_S16x128_o8_0_S8x128

def quart (gy : ℕ) (o : FVec F S8x128 .f32) : FVec F S4x128 .f32 :=
  match gy with
  | 0 => extractStridedSlice S4x128 ![0, 0] o slices_S8x128_o0_0_S4x128
  | _ + 1 => extractStridedSlice S4x128 ![4, 0] o slices_S8x128_o4_0_S4x128

/-! ## The setup of a batch entry -/

/-- One plus the gain. -/
def gainS (x : Vec F S1x1x1x1152 .f32) : FVec F S1x1152 .f32 :=
  addf (broadcast S1x1152 (Scalar.ofBits .f32 0x3F800000#32)) (shapeCast S1x1152 x shapeCasts_S1x1x1x1152_S1x1152)

def ngainS (x : Vec F S1x1x1x1152 .f32) : FVec F S1x1152 .f32 := subf (broadcast S1x1152 (Scalar.ofBits .f32 0x00000000#32)) (gainS x)
def shiftS (x : Vec F S1x1x1x1152 .f32) : FVec F S1x1152 .f32 := shapeCast S1x1152 x shapeCasts_S1x1x1x1152_S1x1152

def rowsS (xg xb : Vec F S1x1x1x1152 .f32) : FVec F S16x1152 .f32 :=
  concatenate S16x1152 0
    [⟨S1x1152, up (sp1 (shiftS xb))⟩, ⟨S1x1152, up (sp1 (shiftS xb))⟩, ⟨S1x1152, up (sp1 (shiftS xb))⟩, ⟨S1x1152, up (sp2 (shiftS xb))⟩, ⟨S1x1152, up (sp2 (shiftS xb))⟩, ⟨S1x1152, up (sp3 (shiftS xb))⟩,
     ⟨S1x1152, up (sp1 (ngainS xg))⟩, ⟨S1x1152, up (sp1 (ngainS xg))⟩, ⟨S1x1152, up (sp1 (ngainS xg))⟩, ⟨S1x1152, up (sp2 (ngainS xg))⟩, ⟨S1x1152, up (sp2 (ngainS xg))⟩, ⟨S1x1152, up (sp3 (ngainS xg))⟩,
     ⟨S4x1152, broadcast S4x1152 (Scalar.ofBits .f32 0x00000000#32)⟩]
    concatenates_S1x1152_S1x1152_S1x1152_S1x1152_S1x1152_S1x1152_S1x1152_S1x1152_S1x1152_S1x1152_S1x1152_S1x1152_S4x1152_S16x1152_d0

theorem slices_gain (c : ℕ) : S1x1152.Slices ![0, 128 * (c % 9)] S1x128 :=
  (by decide : ∀ k : Fin 9, S1x1152.Slices ![0, 128 * k.val] S1x128) ⟨c % 9, Nat.mod_lt _ (by decide)⟩
theorem slices_rows (c : ℕ) : S16x1152.Slices ![0, 128 * (c % 9)] S16x128 :=
  (by decide : ∀ k : Fin 9, S16x1152.Slices ![0, 128 * k.val] S16x128) ⟨c % 9, Nat.mod_lt _ (by decide)⟩

/-- One chunk of the gain, spread over the lanes. -/
def gP (x : Vec F S1x1x1x1152 .f32) (c : ℕ) : FVec F S1x128x128 .f32 :=
  shapeCast S1x128x128 (transpose S128x128 [1, 0] (broadcastTo S128x128 (shapeCast S1x128
    (extractStridedSlice S1x128 ![0, 128 * (c % 9)] (gainS x) (slices_gain c)) shapeCasts_S1x128_S1x128) broadcasts_S1x128_S128x128)
    transposes_S128x128_p1_0_S128x128) shapeCasts_S128x128_S1x128x128

def aP (xg xb : Vec F S1x1x1x1152 .f32) (c : ℕ) : FVec F S1x128x16 .bf16 :=
  shapeCast S1x128x16 (truncf .bf16 (transpose S128x16 [1, 0]
    (extractStridedSlice S16x128 ![0, 128 * (c % 9)] (rowsS xg xb) (slices_rows c)) transposes_S16x128_p1_0_S128x16) bitsLt_bf16_f32) shapeCasts_S128x16_S1x128x16

def oneP : FVec F S16x128 .bf16 := shapeCast S16x128 (broadcast S16x128 (Scalar.ofBits .bf16 0x3F80#16)) shapeCasts_S16x128_S16x128

end Cert.Hand
-- ==== Proof.Pieces.lean ====
module

public import proofs.«01_k».proof.Proof.Stage

@[expose] public section

set_option maxRecDepth 16384

noncomputable section

/-!
The lists of stores the body makes into each buffer, as functions of what it loads. A unit `u` is one half of
the batch (`u % 2`) of one half of the tile (`u / 2 % 2`); store `n` of the per-chunk lists is chunk `n % 9` of unit `n / 9`.
-/

namespace Cert.Hand

open Idealize.ShloMosaic Idealize.ShloMosaic.TcCoe Idealize.SL.Sem
open Cert.KernelIdeal Cert.KernelIdeal.Gen

variable {F : FTy → Type} [FloatOps F] [Named F]

theorem m2 (n : ℕ) : n % 2 < 2 := Nat.mod_lt _ (by decide)
theorem m9 (n : ℕ) : n % 9 < 9 := Nat.mod_lt _ (by decide)
theorem m72 (n : ℕ) : n % 72 < 72 := Nat.mod_lt _ (by decide)

theorem inbX (a b c : ℕ) : ∀ i, (![a % 2, b % 2, 128 * (c % 9), 0] : Fin 4 → ℕ) i + S1x1x128x128.size i ≤ S2x2x1152x128.size i := by
  have := m2 a; have := m2 b; have := m9 c
  intro i; fin_cases i <;> simp [S1x1x128x128, S2x2x1152x128] <;> omega
theorem inbXU (a b : ℕ) : ∀ i, (![a % 2, b % 2, 0, 0] : Fin 4 → ℕ) i + S1x1x1152x128.size i ≤ S2x2x1152x128.size i := by
  have := m2 a; have := m2 b
  intro i; fin_cases i <;> simp [S1x1x1152x128, S2x2x1152x128] <;> omega
theorem inbK (k : ℕ) : ∀ i, (![16 * (k % 72), 0] : Fin 2 → ℕ) i + S16x128.size i ≤ S1152x128.size i := by
  have := m72 k
  intro i; fin_cases i <;> simp [S16x128, S1152x128] <;> omega
theorem inbC (c : ℕ) : ∀ i, (![128 * (c % 9), 0] : Fin 2 → ℕ) i + S128x128.size i ≤ S1152x128.size i := by
  have := m9 c
  intro i; fin_cases i <;> simp [S128x128, S1152x128] <;> omega
theorem inbQ (a b c : ℕ) : ∀ i, (![a % 2, 0, 128 * (b % 2), 128 * (c % 9)] : Fin 4 → ℕ) i + S1x1x128x128.size i ≤ S2x1x256x1152.size i := by
  have := m2 a; have := m2 b; have := m9 c
  intro i; fin_cases i <;> simp [S1x1x128x128, S2x1x256x1152] <;> omega
theorem inbS (a b c : ℕ) : ∀ i, (![a % 2, 0, 4 * (c % 9), 128 * (b % 2)] : Fin 4 → ℕ) i + S1x1x4x128.size i ≤ S2x1x36x256.size i := by
  have := m2 a; have := m2 b; have := m9 c
  intro i; fin_cases i <;> simp [S1x1x4x128, S2x1x36x256] <;> omega
theorem inbG (a c : ℕ) : ∀ i, (![a % 2, 128 * (c % 9), 0] : Fin 3 → ℕ) i + S1x128x128.size i ≤ S2x1152x128.size i := by
  have := m2 a; have := m9 c
  intro i; fin_cases i <;> simp [S1x128x128, S2x1152x128] <;> omega
theorem inbA (a c : ℕ) : ∀ i, (![a % 2, 128 * (c % 9), 0] : Fin 3 → ℕ) i + S1x128x16.size i ≤ S2x1152x16.size i := by
  have := m2 a; have := m9 c
  intro i; fin_cases i <;> simp [S1x128x16, S2x1152x16] <;> omega
theorem inbV (a : ℕ) : ∀ i, (![a % 2, 0, 0, 0] : Fin 4 → ℕ) i + S1x1x1x1152.size i ≤ S2x1x1x1152.size i := by
  have := m2 a
  intro i; fin_cases i <;> simp [S1x1x1x1152, S2x1x1x1152] <;> omega
theorem inbI (a b c : ℕ) : ∀ i, (![0, 0, 4 * (a % 2) + 2 * (c % 2) + b % 2, 0] : Fin 4 → ℕ) i + S1x4x1x128.size i ≤ S1x4x8x128.size i := by
  have := m2 a; have := m2 b; have := m2 c
  intro i; fin_cases i <;> simp [S1x4x1x128, S1x4x8x128] <;> omega
theorem inbW : ∀ i, (![0, 0] : Fin 2 → ℕ) i + S16x1152.size i ≤ S16x1152.size i := by
  intro i; fin_cases i <;> simp
theorem inbB : ∀ i, (![0, 0] : Fin 2 → ℕ) i + S16x1.size i ≤ S16x1.size i := by
  intro i; fin_cases i <;> simp
theorem inbO : ∀ i, (![0, 0] : Fin 2 → ℕ) i + S16x128.size i ≤ S16x128.size i := by
  intro i; fin_cases i <;> simp

/-- The first `n` stores of a sequence, the last of them first. -/
def lst {α : Type} (P : ℕ → α) : ℕ → List α
  | 0 => []
  | n + 1 => P n :: lst P n

/-- The transposed copies of the tile's activations. -/
def HX (arg3 : Memref sig .tc .vmem S2x1x256x1152 .bf16) (harg3 : arg3.IsWhole) (x1 : Vec F S2x1x256x1152 .bf16) :
    ℕ → List (View.Piece (Elt F) S2x2x1152x128 .bf16) :=
  lst fun n => ⟨Rect.unit ![n / 9 % 2, n / 18 % 2, 128 * (n % 9), 0] S1x1x128x128.size (inbX (n / 9) (n / 18) n),
      shapeCast S1x1x128x128 (shapeCast S128x128 (transpose S128x128 [1, 0] (shapeCast S128x128
        (View.readAt (Elt F) arg3.view (Rect.unit (s := S2x1x256x1152) ![n / 9 % 2, 0, 128 * (n / 18 % 2), 128 * (n % 9)] S1x1x128x128.size (inbQ (n / 9) (n / 18) n)).toLoadRect (harg3.unread x1))
        shapeCasts_S1x1x128x128_S128x128) transposes_S128x128_p1_0_S128x128) shapeCasts_S128x128_S128x128) shapeCasts_S128x128_S1x1x128x128⟩

/-- A box of one plane of the transposed copies' buffer, as a box of the buffer's slice. -/
def lift2 (r : LoadRect S1152x128) : LoadRect S1x1x1152x128 :=
  LoadRect.consLift (LoadRect.consLift r ![1, 1152, 128] rfl (fun i => by fin_cases i <;> rfl)) ![1, 1, 1152, 128] rfl (fun i => by fin_cases i <;> rfl)

theorem numel_lift2 (r : LoadRect S1152x128) : r.shape.numel = (lift2 r).shape.numel :=
  (LoadRect.numel_consLift r ![1, 1152, 128] rfl _).trans (LoadRect.numel_consLift _ ![1, 1, 1152, 128] rfl _)

/-- The place of a box of a unit's plane in the buffer. -/
def box2 (u : ℕ) (r : LoadRect S1152x128) : LoadRect S2x2x1152x128 :=
  (Rect.unit (s := S2x2x1152x128) ![u % 2, u / 2 % 2, 0, 0] S1x1x1152x128.size (inbXU u (u / 2))).withinL (lift2 r) (fun _ => rfl)

theorem numel_box2 (u : ℕ) (r : LoadRect S1152x128) : r.shape.numel = (box2 u r).shape.numel := numel_lift2 r

/-- A load through a unit's plane. -/
def rd2 (arg16 : Memref sig .tc .vmem S2x2x1152x128 .bf16) (L : List (View.Piece (Elt F) S2x2x1152x128 .bf16)) (u : ℕ) (r : LoadRect S1152x128) :
    r.shape.Idx → Elt F .bf16 :=
  LoadRect.valAlong (numel_box2 u r) (arg16.view.readCov L (box2 u r))

/-- Sixteen rows of a unit's transposed copy. -/
def xkRd (arg16 : Memref sig .tc .vmem S2x2x1152x128 .bf16) (L : List (View.Piece (Elt F) S2x2x1152x128 .bf16)) (u k : ℕ) : FVec F S16x128 .bf16 :=
  rd2 arg16 L u (Rect.unit (s := S1152x128) ![16 * (k % 72), 0] S16x128.size (inbK k)).toLoadRect

/-- One chunk of a unit's transposed copy. -/
def xcRd (arg16 : Memref sig .tc .vmem S2x2x1152x128 .bf16) (L : List (View.Piece (Elt F) S2x2x1152x128 .bf16)) (u c : ℕ) : FVec F S128x128 .bf16 :=
  rd2 arg16 L u (Rect.unit (s := S1152x128) ![128 * (c % 9), 0] S128x128.size (inbC c)).toLoadRect

/-- The gain's stores at a batch entry's first tile. -/
def HG (arg4 : Memref sig .tc .vmem S2x1x1x1152 .f32) (harg4 : arg4.IsWhole) (x2 : Vec F S2x1x1x1152 .f32) :
    ℕ → List (View.Piece (Elt F) S2x1152x128 .f32) :=
  lst fun n => ⟨Rect.unit ![n / 9 % 2, 128 * (n % 9), 0] S1x128x128.size (inbG (n / 9) n),
      gP (View.readAt (Elt F) arg4.view (Rect.unit (s := S2x1x1x1152) ![n / 9 % 2, 0, 0, 0] S1x1x1x1152.size (inbV (n / 9))).toLoadRect (harg4.unread x2)) n⟩

/-- The shift's and the gain's terms' stores at a batch entry's first tile. -/
def HA (arg4 : Memref sig .tc .vmem S2x1x1x1152 .f32) (harg4 : arg4.IsWhole) (arg5 : Memref sig .tc .vmem S2x1x1x1152 .f32) (harg5 : arg5.IsWhole)
    (x2 x3 : Vec F S2x1x1x1152 .f32) : ℕ → List (View.Piece (Elt F) S2x1152x16 .bf16) :=
  lst fun n => ⟨Rect.unit ![n / 9 % 2, 128 * (n % 9), 0] S1x128x16.size (inbA (n / 9) n),
      aP (View.readAt (Elt F) arg4.view (Rect.unit (s := S2x1x1x1152) ![n / 9 % 2, 0, 0, 0] S1x1x1x1152.size (inbV (n / 9))).toLoadRect (harg4.unread x2))
        (View.readAt (Elt F) arg5.view (Rect.unit (s := S2x1x1x1152) ![n / 9 % 2, 0, 0, 0] S1x1x1x1152.size (inbV (n / 9))).toLoadRect (harg5.unread x3)) n⟩

/-- The ones' store. -/
def HO : List (View.Piece (Elt F) S16x128 .bf16) := [⟨Rect.unit ![0, 0] S16x128.size inbO, oneP⟩]

/-- What a unit loads. -/
structure Ld (F : FTy → Type) where
  xk : ℕ → ℕ → FVec F S16x128 .bf16
  xc : ℕ → ℕ → FVec F S128x128 .bf16
  g : ℕ → ℕ → Vec F S1x128x128 .f32
  a : ℕ → ℕ → Vec F S1x128x16 .bf16
  one : Vec F S16x128 .bf16

variable (l : Ld F)

def sum1 (u : ℕ) : FVec F S16x128 .f32 := st1 l.one (l.xk u) 71
def sum2 (u : ℕ) : FVec F S16x128 .f32 := st2 (l.xk u) 71
def rsL (u : ℕ) : FVec F S1x128 .f32 := rsS (sum1 l u) (sum2 l u)
def bmL (u : ℕ) : FVec F S16x128 .bf16 := bmS (sgS (sum1 l u) (sum2 l u)) (muS (sum1 l u))
def zL (u c : ℕ) : FVec F S128x128 .f32 := zT (l.xc u c) (l.g u c) (l.a u c) (bmL l u)
def eL (u c : ℕ) : IVec S4x128 32 := eT (yT (zL l u c) (rsL l u))
def qL (u c : ℕ) : FVec F S128x128 .fp8e4m3 := codeT (zL l u c) (rsL l u) (eL l u c)

/-- The codes' stores. -/
def HQ : ℕ → List (View.Piece (Elt F) S2x1x256x1152 .fp8e4m3) :=
  lst fun n => ⟨Rect.unit ![n / 9 % 2, 0, 128 * (n / 18 % 2), 128 * (n % 9)] S1x1x128x128.size (inbQ (n / 9) (n / 18) n),
      shapeCast S1x1x128x128 (transpose S128x128 [1, 0] (qL l (n / 9) (n % 9)) transposes_S128x128_p1_0_S128x128) shapeCasts_S128x128_S1x1x128x128⟩

/-- The scales' stores. -/
def HC : ℕ → List (View.Piece (Elt F) S2x1x36x256 .f32) :=
  lst fun n => ⟨Rect.unit ![n / 9 % 2, 0, 4 * (n % 9), 128 * (n / 18 % 2)] S1x1x4x128.size (inbS (n / 9) (n / 18) n),
      shapeCast S1x1x4x128 (scT (eL l (n / 9) (n % 9))) shapeCasts_S4x128_S1x1x4x128⟩

/-- The dequantised values' stores. -/
def HW : ℕ → List (View.Piece (Elt F) S2x2x1152x128 .bf16) :=
  lst fun n => ⟨Rect.unit ![n / 9 % 2, n / 18 % 2, 128 * (n % 9), 0] S1x1x128x128.size (inbX (n / 9) (n / 18) n),
      shapeCast S1x1x128x128 (shapeCast S128x128 (xwT (qL l (n / 9) (n % 9)) (eL l (n / 9) (n % 9))) shapeCasts_S128x128_S128x128) shapeCasts_S128x128_S1x1x128x128⟩

/-- What the projection loads besides. -/
structure Pj (F : FTy → Type) where
  w : Vec F S16x1152 .fp8e4m3
  ws : Vec F S16x1 .f32
  bo : Vec F S16x1 .f32
  gd : F .f32
  dt : F .f32
  lat : ℕ → ℕ → ℕ → Vec F S1x4x1x128 .f32

variable (p : Pj F) (arg19 : Memref sig .tc .vmem S2x2x1152x128 .bf16)

def xwRd (u : ℕ) : Vec F S1x1x1152x128 .bf16 :=
  arg19.view.readCov (HW l (9 * (u + 1))) (Rect.unit (s := S2x2x1152x128) ![u % 2, u / 2 % 2, 0, 0] S1x1x1152x128.size (inbXU u (u / 2))).toLoadRect
def yL (u : ℕ) : FVec F S16x128 .f32 := yU p.w p.ws p.bo (xwRd l arg19 u)
def vL (lt : ℕ) : FVec F S16x128 .f32 := vU p.gd (yL l p arg19 (2 * lt)) (yL l p arg19 (2 * lt + 1))
def imgL (lt pi gy : ℕ) : FVec F S4x128 .f32 := quart gy (imgT (half pi (vL l p arg19 lt)))

/-- The velocity image's stores. -/
def HV : ℕ → List (View.Piece (Elt F) S1x4x8x128 .f32) :=
  lst fun n => ⟨Rect.unit ![0, 0, 4 * (n / 4 % 2) + 2 * (n % 2) + n / 2 % 2, 0] S1x4x1x128.size (inbI (n / 4) (n / 2) n),
      shapeCast S1x4x1x128 (imgL l p arg19 (n / 4) (n / 2 % 2) (n % 2)) shapeCasts_S4x128_S1x4x1x128⟩

/-- The next latent's stores. -/
def HL : ℕ → List (View.Piece (Elt F) S1x4x8x128 .f32) :=
  lst fun n => ⟨Rect.unit ![0, 0, 4 * (n / 4 % 2) + 2 * (n % 2) + n / 2 % 2, 0] S1x4x1x128.size (inbI (n / 4) (n / 2) n),
      shapeCast S1x4x1x128 (addf (shapeCast S4x128 (p.lat (n / 4) (n / 2 % 2) (n % 2)) shapeCasts_S1x4x1x128_S4x128)
        (mulf (broadcast S4x128 p.dt) (imgL l p arg19 (n / 4) (n / 2 % 2) (n % 2)))) shapeCasts_S4x128_S1x4x1x128⟩

end Cert.Hand
-- ==== Proof.Exponent.lean ====
/-
  The block scale, over the reals.

  The kernel finds the exponent of `y` by counting the powers of two `2 ^ (k - 127)`, `1 ≤ k ≤ 255`,
  that are not above it (the 255th is infinite); the reference by `⌊log y / log 2⌋`. Both then form a
  power of two. Here the two are the same number for every real `0 ≤ y < 2 ^ 126`.
-/
module

public import Idealize.ShloMosaic.PureOps.Ideal
public import Mathlib.Analysis.SpecialFunctions.Log.Basic

@[expose] public section

noncomputable section

namespace Cert.Hand

open Idealize.ShloMosaic

/-- The integer part of the logarithm to base two. -/
def lg (y : ℝ) : ℤ := ⌊Real.log y / Real.log 2⌋

theorem log2_pos : 0 < Real.log 2 := Real.log_pos (by norm_num)

theorem zpow_le_iff {y : ℝ} (hy : 0 < y) (x : ℤ) : (2 : ℝ) ^ x ≤ y ↔ x ≤ lg y := by
  unfold lg
  rw [Int.le_floor, le_div_iff₀ log2_pos, ← Real.log_zpow, Real.log_le_log_iff (by positivity) hy]

theorem lt_zpow_iff {y : ℝ} (hy : 0 < y) (x : ℤ) : y < (2 : ℝ) ^ x ↔ lg y < x := by
  rw [← not_le, zpow_le_iff hy, not_le]

/-- The scale of a block whose largest magnitude is `448 y`. -/
def scaleOf (y : ℝ) : ℝ := if y < (2 : ℝ) ^ (-126 : ℤ) then 1 else (2 : ℝ) ^ (lg y + 1)

/-- The exponent field the kernel counts, as a number. -/
def fieldOf (y : ℝ) : ℕ := if y < (2 : ℝ) ^ (-126 : ℤ) then 0 else (lg y + 127).toNat

theorem field_bits : ∀ n : Fin 255, 1 ≤ n.val →
    ((BitVec.ofNat 32 n.val <<< 23).extractLsb' 31 1 == 1#1) = false ∧
    ((BitVec.ofNat 32 n.val <<< 23).extractLsb' 23 8).toNat = n.val ∧
    ((BitVec.ofNat 32 n.val <<< 23).extractLsb' 0 23).toNat = 0 := by decide +kernel

/-- A word with exponent field `n` and nothing else is `2 ^ (n - 127)`. -/
theorem ofBits_field {n : ℕ} (h1 : 1 ≤ n) (h2 : n < 255) :
    Ideal.ofBits .f32 (BitVec.ofNat 32 n <<< 23 : BitVec 32) = (((2 : ℝ) ^ ((n : ℤ) - 127) : ℝ) : EReal) := by
  obtain ⟨ha, hb, hc⟩ := field_bits ⟨n, h2⟩ h1
  have hb' : ((BitVec.ofNat 32 n <<< 23).extractLsb' 23 8).toNat = n := hb
  have hc' : ((BitVec.ofNat 32 n <<< 23).extractLsb' 0 23).toNat = 0 := hc
  have ha' : ((BitVec.ofNat 32 n <<< 23).extractLsb' 31 1 == 1#1) = false := ha
  show Ideal.ieee 8 23 (w := 32) (BitVec.ofNat 32 n <<< 23) = _
  unfold Ideal.ieee
  simp only [Nat.reduceAdd, ha', hb', hc']
  rw [if_neg (by omega), if_neg (by omega)]
  refine congrArg (fun r : ℝ => (r : EReal)) ?_
  have : (2 : ℝ) ^ ((n : ℤ) - (2 ^ (8 - 1) - 1 : ℤ) - ((23 : ℕ) : ℤ)) = (2 : ℝ) ^ ((n : ℤ) - 127) * ((2 : ℝ) ^ (23 : ℕ))⁻¹ := by
    rw [show ((n : ℤ) - (2 ^ (8 - 1) - 1 : ℤ) - ((23 : ℕ) : ℤ)) = ((n : ℤ) - 127) - (23 : ℕ) by norm_num,
      zpow_sub₀ (by norm_num), zpow_natCast, div_eq_mul_inv]
  rw [this]
  push_cast
  field_simp
  norm_num

theorem ofBits_field_top :
    Ideal.ofBits .f32 (BitVec.ofNat 32 255 <<< 23 : BitVec 32) = ⊤ := by
  have ha : ((BitVec.ofNat 32 255 <<< 23).extractLsb' 31 1 == 1#1) = false := by decide
  have hb : ((BitVec.ofNat 32 255 <<< 23).extractLsb' 23 8).toNat = 255 := by decide
  have hc : ((BitVec.ofNat 32 255 <<< 23).extractLsb' 0 23).toNat = 0 := by decide
  show Ideal.ieee 8 23 (w := 32) (BitVec.ofNat 32 255 <<< 23) = _
  unfold Ideal.ieee
  simp only [Nat.reduceAdd, ha, hb, hc]
  norm_num

theorem log_ge {y : ℝ} (h : ¬ y < (2 : ℝ) ^ (-126 : ℤ)) : -126 ≤ lg y := by
  have hy : (0 : ℝ) < y := lt_of_lt_of_le (by positivity) (not_lt.mp h)
  exact (zpow_le_iff hy _).mp (not_lt.mp h)

theorem log_lt {y : ℝ} (h : ¬ y < (2 : ℝ) ^ (-126 : ℤ)) (hu : y < (2 : ℝ) ^ (126 : ℤ)) : lg y < 126 := by
  have hy : (0 : ℝ) < y := lt_of_lt_of_le (by positivity) (not_lt.mp h)
  exact (lt_zpow_iff hy _).mp hu

theorem fieldOf_le {y : ℝ} (hu : y < (2 : ℝ) ^ (126 : ℤ)) : fieldOf y ≤ 252 := by
  unfold fieldOf
  split
  · omega
  · rename_i h; have := log_lt h hu; omega

/-- The count of thresholds: how many of the 255 words `k << 23` are not above `y`. -/
theorem threshold_iff {y : ℝ} (hy : 0 ≤ y) (hu : y < (2 : ℝ) ^ (126 : ℤ)) {k : ℕ} (h1 : 1 ≤ k) (h2 : k ≤ 255) :
    (Ideal.ofBits .f32 (BitVec.ofNat 32 k <<< 23 : BitVec 32) ≤ (y : EReal)) ↔ k ≤ fieldOf y := by
  rcases Nat.lt_or_ge k 255 with hk | hk
  · rw [ofBits_field h1 hk, EReal.coe_le_coe_iff]
    unfold fieldOf
    split
    · rename_i h
      constructor
      · intro hle
        exfalso
        have : (2 : ℝ) ^ (-126 : ℤ) ≤ (2 : ℝ) ^ ((k : ℤ) - 127) := zpow_le_zpow_right₀ (by norm_num) (by omega)
        linarith
      · intro h'; omega
    · rename_i h
      have hpos : (0 : ℝ) < y := lt_of_lt_of_le (by positivity) (not_lt.mp h)
      have := log_ge h
      rw [zpow_le_iff hpos]
      omega
  · have hk' : k = 255 := by omega
    subst hk'
    rw [ofBits_field_top]
    have := fieldOf_le hu
    constructor
    · intro h; exact absurd (top_le_iff.mp h) (EReal.coe_ne_top y)
    · intro h; omega

/-- The kernel's scale word denotes `scaleOf y`. -/
theorem scale_word {y : ℝ} (hu : y < (2 : ℝ) ^ (126 : ℤ)) :
    Ideal.ofBits .f32 ((if fieldOf y = 0 then BitVec.ofNat 32 127 else BitVec.ofNat 32 (fieldOf y) + BitVec.ofNat 32 1) <<< 23 : BitVec 32)
      = ((scaleOf y : ℝ) : EReal) := by
  have hle := fieldOf_le hu
  by_cases h : y < (2 : ℝ) ^ (-126 : ℤ)
  · have h0 : fieldOf y = 0 := by unfold fieldOf; rw [if_pos h]
    rw [if_pos h0, ofBits_field (by norm_num) (by norm_num)]
    unfold scaleOf; rw [if_pos h]; norm_num
  · have hlog := log_ge h
    have hf : fieldOf y = (lg y + 127).toNat := by unfold fieldOf; rw [if_neg h]
    have h0 : fieldOf y ≠ 0 := by omega
    rw [if_neg h0, ← BitVec.ofNat_add, ofBits_field (by omega) (by omega)]
    unfold scaleOf; rw [if_neg h]
    congr 2
    push_cast
    omega

/-- The kernel's inverse word denotes `(scaleOf y)⁻¹`. -/
theorem inv_word {y : ℝ} (hu : y < (2 : ℝ) ^ (126 : ℤ)) :
    Ideal.ofBits .f32 ((if fieldOf y = 0 then BitVec.ofNat 32 127 else BitVec.ofNat 32 253 - BitVec.ofNat 32 (fieldOf y)) <<< 23 : BitVec 32)
      = (((scaleOf y)⁻¹ : ℝ) : EReal) := by
  have hle := fieldOf_le hu
  by_cases h : y < (2 : ℝ) ^ (-126 : ℤ)
  · have h0 : fieldOf y = 0 := by unfold fieldOf; rw [if_pos h]
    rw [if_pos h0, ofBits_field (by norm_num) (by norm_num)]
    unfold scaleOf; rw [if_pos h]; norm_num
  · have hlog := log_ge h
    have hf : fieldOf y = (lg y + 127).toNat := by unfold fieldOf; rw [if_neg h]
    have h0 : fieldOf y ≠ 0 := by omega
    have hsub : BitVec.ofNat 32 253 - BitVec.ofNat 32 (fieldOf y) = BitVec.ofNat 32 (253 - fieldOf y) := by
      apply BitVec.eq_of_toNat_eq
      simp only [BitVec.toNat_sub, BitVec.toNat_ofNat]
      omega
    rw [if_neg h0, hsub, ofBits_field (by omega) (by omega)]
    unfold scaleOf; rw [if_neg h, ← zpow_neg]
    congr 2
    omega

/-- The reference's exponent, as an extended real. -/
def refExp (y : EReal) : EReal :=
  if y < Ideal.ofBits .f32 0x00800000#32 then 0
  else Ideal.liftRound Int.floor (Ideal.div (Ideal.log y) (Ideal.log ((2 : ℝ) : EReal))) + 1

theorem tiny_eq : Ideal.ofBits .f32 0x00800000#32 = (((2 : ℝ) ^ (-126 : ℤ) : ℝ) : EReal) := by
  have := ofBits_field (n := 1) (by norm_num) (by norm_num)
  have h1 : (BitVec.ofNat 32 1 <<< 23 : BitVec 32) = 0x00800000#32 := by decide
  rw [h1] at this
  rw [this]; norm_num

theorem refExp_eq {y : ℝ} :
    refExp (y : EReal) = (((if y < (2 : ℝ) ^ (-126 : ℤ) then 0 else lg y + 1 : ℤ) : ℝ) : EReal) := by
  unfold refExp
  rw [tiny_eq]
  by_cases h : y < (2 : ℝ) ^ (-126 : ℤ)
  · rw [if_pos (EReal.coe_lt_coe_iff.mpr h), if_pos h]; simp
  · rw [if_neg (fun h' => h (EReal.coe_lt_coe_iff.mp h')), if_neg h]
    have hpos : (0 : ℝ) < y := lt_of_lt_of_le (by positivity) (not_lt.mp h)
    have hl2 : Real.log 2 ≠ 0 := log2_pos.ne'
    have e1 : Ideal.log (y : EReal) = ((Real.log y : ℝ) : EReal) := by
      show (if y ≤ 0 then ⊥ else ((Real.log y : ℝ) : EReal)) = _
      rw [if_neg (by linarith)]
    have e2 : Ideal.log ((2 : ℝ) : EReal) = ((Real.log 2 : ℝ) : EReal) := by
      show (if (2 : ℝ) ≤ 0 then ⊥ else ((Real.log 2 : ℝ) : EReal)) = _
      rw [if_neg (by norm_num)]
    have e3 : Ideal.div ((Real.log y : ℝ) : EReal) ((Real.log 2 : ℝ) : EReal) = ((Real.log y / Real.log 2 : ℝ) : EReal) := by
      unfold Ideal.div
      rw [if_neg (by exact_mod_cast hl2), ← EReal.coe_inv, ← EReal.coe_mul]
      rfl
    rw [e1, e2, e3]
    show (((lg y : ℤ) : ℝ) : EReal) + 1 = _
    push_cast
    rfl

theorem ref_scale {y : ℝ} : Ideal.pow ((2 : ℝ) : EReal) (refExp (y : EReal)) = ((scaleOf y : ℝ) : EReal) := by
  rw [refExp_eq]
  show ((Real.rpow 2 ((if y < (2 : ℝ) ^ (-126 : ℤ) then 0 else lg y + 1 : ℤ) : ℝ) : ℝ) : EReal) = _
  congr 1
  show (2 : ℝ) ^ ((if y < (2 : ℝ) ^ (-126 : ℤ) then 0 else lg y + 1 : ℤ) : ℝ) = _
  rw [Real.rpow_intCast]
  unfold scaleOf
  split <;> simp

theorem ref_inv {y : ℝ} : Ideal.pow ((2 : ℝ) : EReal) (-(refExp (y : EReal))) = (((scaleOf y)⁻¹ : ℝ) : EReal) := by
  rw [refExp_eq, ← EReal.coe_neg]
  show ((Real.rpow 2 (-((if y < (2 : ℝ) ^ (-126 : ℤ) then 0 else lg y + 1 : ℤ) : ℝ)) : ℝ) : EReal) = _
  congr 1
  show (2 : ℝ) ^ (-((if y < (2 : ℝ) ^ (-126 : ℤ) then 0 else lg y + 1 : ℤ) : ℝ)) = _
  rw [← Int.cast_neg, Real.rpow_intCast, zpow_neg]
  unfold scaleOf
  split <;> simp

end Cert.Hand

end
-- ==== Proof.Norm.lean ====
/-
  The layer norm, over the reals: the kernel's one-pass sums against the reference's two passes.

  The kernel keeps `z = x g + (b σ - g μ)`, the modulated row times `σ = √(var + eps)`, and multiplies by
  `1 / σ` later; the reference forms `(x - μ) / σ · g + b`. Also here: the bound that keeps a block's
  exponent inside the range the kernel's words can hold.
-/
module

public import Idealize.ShloMosaic.PureOps.Ideal

@[expose] public section

noncomputable section

namespace Cert.Hand

open Idealize.ShloMosaic
open scoped BigOperators

/-- The mean of a row. -/
def mean (x : Fin 1152 → ℝ) : ℝ := (∑ d, x d) * (1152 : ℝ)⁻¹

/-- The mean square deviation of a row. -/
def vari (x : Fin 1152 → ℝ) : ℝ := (∑ d, (x d - mean x) * (x d - mean x)) * (1152 : ℝ)⁻¹

theorem vari_nonneg (x : Fin 1152 → ℝ) : 0 ≤ vari x :=
  mul_nonneg (Finset.sum_nonneg fun d _ => mul_self_nonneg _) (by norm_num)

/-- The mean of the squares less the square of the mean. -/
theorem onePass (x : Fin 1152 → ℝ) :
    (∑ d, x d * x d) * (1152 : ℝ)⁻¹ - mean x * mean x = vari x := by
  have h1 : (∑ d, (x d - mean x) * (x d - mean x))
      = (∑ d, x d * x d) - 2 * mean x * (∑ d, x d) + 1152 * (mean x * mean x) := by
    have : ∀ d, (x d - mean x) * (x d - mean x) = x d * x d - 2 * mean x * x d + mean x * mean x := fun d => by ring
    simp only [this, Finset.sum_add_distrib, Finset.sum_sub_distrib, ← Finset.mul_sum, Finset.sum_const,
      Finset.card_univ, Fintype.card_fin, nsmul_eq_mul]
    push_cast; ring
  have h2 : (∑ d, x d) = 1152 * mean x := by unfold mean; ring
  unfold vari
  rw [h1, h2]; ring

theorem onePass_max (x : Fin 1152 → ℝ) :
    max ((∑ d, x d * x d) * (1152 : ℝ)⁻¹ - mean x * mean x) 0 = vari x := by
  rw [onePass, max_eq_left (vari_nonneg x)]

/-- `1 / √(var + eps)`. -/
def rs (eps : ℝ) (x : Fin 1152 → ℝ) : ℝ := (Real.sqrt (vari x + eps))⁻¹

theorem rs_pos {eps : ℝ} (he : 0 < eps) (x : Fin 1152 → ℝ) : 0 < rs eps x :=
  inv_pos.mpr (Real.sqrt_pos.mpr (by have := vari_nonneg x; linarith))

theorem sigma_rs {eps : ℝ} (he : 0 < eps) (x : Fin 1152 → ℝ) :
    ((vari x + eps) * rs eps x) * rs eps x = 1 := by
  have h : 0 < vari x + eps := by have := vari_nonneg x; linarith
  unfold rs
  have hs : Real.sqrt (vari x + eps) * Real.sqrt (vari x + eps) = vari x + eps := Real.mul_self_sqrt h.le
  have hp : Real.sqrt (vari x + eps) ≠ 0 := (Real.sqrt_pos.mpr h).ne'
  field_simp
  nlinarith [hs]

/-- The modulated row. -/
def modu (eps : ℝ) (x : Fin 1152 → ℝ) (g b : Fin 1152 → ℝ) (d : Fin 1152) : ℝ :=
  (x d - mean x) * rs eps x * (1 + g d) + b d

/-- The row the kernel keeps: the modulated row times `√(var + eps)`. -/
def pre (eps : ℝ) (x : Fin 1152 → ℝ) (g b : Fin 1152 → ℝ) (d : Fin 1152) : ℝ :=
  x d * (1 + g d) + (b d * ((vari x + eps) * rs eps x) + -(1 + g d) * mean x)

theorem pre_rs {eps : ℝ} (he : 0 < eps) (x g b : Fin 1152 → ℝ) (d : Fin 1152) :
    pre eps x g b d * rs eps x = modu eps x g b d := by
  have h := sigma_rs he x
  unfold pre modu
  have : (x d * (1 + g d) + (b d * ((vari x + eps) * rs eps x) + -(1 + g d) * mean x)) * rs eps x
      = (x d - mean x) * rs eps x * (1 + g d) + b d * (((vari x + eps) * rs eps x) * rs eps x) := by ring
  rw [this, h, mul_one]

theorem dev_bound {eps : ℝ} (he : 0 < eps) (x : Fin 1152 → ℝ) (d : Fin 1152) :
    |(x d - mean x) * rs eps x| ≤ 34 := by
  have h : 0 < vari x + eps := by have := vari_nonneg x; linarith
  have hsum : (x d - mean x) * (x d - mean x) ≤ 1152 * vari x := by
    have h1 := Finset.single_le_sum (s := Finset.univ) (f := fun d => (x d - mean x) * (x d - mean x))
      (fun d _ => mul_self_nonneg _) (Finset.mem_univ d)
    have h2 : 1152 * vari x = ∑ d, (x d - mean x) * (x d - mean x) := by unfold vari; ring
    rw [h2]; exact h1
  have hr : rs eps x * rs eps x * (vari x + eps) = 1 := by
    have := sigma_rs he x; nlinarith [this]
  have hrp := rs_pos he x
  apply abs_le_of_sq_le_sq _ (by norm_num)
  have : ((x d - mean x) * rs eps x) ^ 2 = ((x d - mean x) * (x d - mean x)) * (rs eps x * rs eps x) := by ring
  rw [this]
  have h3 : ((x d - mean x) * (x d - mean x)) * (rs eps x * rs eps x) ≤ (1152 * vari x) * (rs eps x * rs eps x) :=
    mul_le_mul_of_nonneg_right hsum (by positivity)
  have h4 : vari x * (rs eps x * rs eps x) ≤ 1 := by
    have : 0 ≤ eps * (rs eps x * rs eps x) := by positivity
    nlinarith [hr]
  nlinarith [h3, h4]

theorem modu_bound {eps M : ℝ} (he : 0 < eps) (hM : 0 ≤ M) (x g b : Fin 1152 → ℝ) (d : Fin 1152)
    (hg : |g d| ≤ M) (hb : |b d| ≤ M) : |modu eps x g b d| ≤ 34 + 35 * M := by
  have h1 := dev_bound he x d
  have h2 : |1 + g d| ≤ 1 + M := (abs_add_le _ _).trans (by rw [abs_one]; linarith)
  unfold modu
  refine (abs_add_le _ _).trans ?_
  rw [abs_mul]
  have h3 : |(x d - mean x) * rs eps x| * |1 + g d| ≤ 34 * (1 + M) :=
    mul_le_mul h1 h2 (abs_nonneg _) (by norm_num)
  linarith

end Cert.Hand

end
-- ==== Proof.UnitOps.lean ====
module

public import proofs.«01_k».proof.Proof.Pieces
public import proofs.«01_k».proof.Proof.Exponent
public import proofs.«01_k».proof.Proof.Norm
public import Idealize.ShloMosaic.Lib.Pointwise

@[expose] public section

set_option maxRecDepth 16384

noncomputable section

/-!
The body's functions over the extended reals, one element at a time: statistics, the terms' rows, the exponent
count, the scale and its reciprocal, the unpatched image.
-/

namespace Cert.Hand

open Idealize.ShloMosaic Idealize.ShloMosaic.TcCoe Idealize.SL.Sem
open Cert.KernelIdeal Cert.KernelIdeal.Gen

/-! ## Constants -/

/-- A word of an ordinary number, read from its three fields. -/
theorem ofBits_fields (w : BitVec 32) (s : Bool) (ex fr : ℕ) (hs : (w.extractLsb' 31 1 == 1#1) = s)
    (he : (w.extractLsb' 23 8).toNat = ex) (hf : (w.extractLsb' 0 23).toNat = fr) (h0 : ex ≠ 0) (h1 : ex ≠ 255) :
    Ideal.ofBits .f32 w = (((if s then -1 else 1 : ℝ) * ((8388608 + fr : ℕ) : ℝ) * (2 : ℝ) ^ ((ex : ℤ) - 127 - 23) : ℝ) : EReal) := by
  show Ideal.ieee 8 23 (w := 32) w = _
  unfold Ideal.ieee
  simp only [Nat.reduceAdd, hs, he, hf]
  rw [if_neg (by simpa using h1), if_neg h0]
  refine congrArg (fun r : ℝ => (r : EReal)) ?_
  push_cast
  norm_num

/-- A word with the largest exponent field and no fraction is an infinity. -/
theorem ofBits_inf (w : BitVec 32) (s : Bool) (hs : (w.extractLsb' 31 1 == 1#1) = s)
    (he : (w.extractLsb' 23 8).toNat = 255) (hf : (w.extractLsb' 0 23).toNat = 0) :
    Ideal.ofBits .f32 w = if s then ⊥ else ⊤ := by
  show Ideal.ieee 8 23 (w := 32) w = _
  unfold Ideal.ieee
  simp only [Nat.reduceAdd, hs, he, hf]
  norm_num

theorem c448 : Ideal.ofBits .f32 0x43E00000#32 = ((448 : ℝ) : EReal) :=
  (ofBits_fields _ false 135 6291456 (by decide) (by decide) (by decide) (by decide) (by decide)).trans (congrArg _ (by norm_num))
theorem cm448 : Ideal.ofBits .f32 0xC3E00000#32 = ((-448 : ℝ) : EReal) :=
  (ofBits_fields _ true 135 6291456 (by decide) (by decide) (by decide) (by decide) (by decide)).trans (congrArg _ (by norm_num))
theorem cbot : Ideal.ofBits .f32 0xFF800000#32 = (⊥ : EReal) := ofBits_inf _ true (by decide) (by decide) (by decide)
theorem ctop : Ideal.ofBits .f32 0x7F800000#32 = (⊤ : EReal) := ofBits_inf _ false (by decide) (by decide) (by decide)
/-- The largest finite value. -/
def big : ℝ := 2 ^ 128 - 2 ^ 104
theorem cbig : Ideal.ofBits .f32 0x7F7FFFFF#32 = ((big : ℝ) : EReal) :=
  (ofBits_fields _ false 254 8388607 (by decide) (by decide) (by decide) (by decide) (by decide)).trans (congrArg _ (by unfold big; norm_num))
theorem c1152 : Ideal.ofBits .f32 0x44900000#32 = ((1152 : ℝ) : EReal) :=
  (ofBits_fields _ false 137 1048576 (by decide) (by decide) (by decide) (by decide) (by decide)).trans (congrArg _ (by norm_num))
theorem ctwo : Ideal.ofBits .f32 0x40000000#32 = ((2 : ℝ) : EReal) :=
  (ofBits_fields _ false 128 0 (by decide) (by decide) (by decide) (by decide) (by decide)).trans (congrArg _ (by norm_num))
/-- The constant added to the variance, as its word denotes it. -/
def eps : ℝ := 8796093 * (2 : ℝ) ^ (-43 : ℤ)
theorem ceps : Ideal.ofBits .f32 0x358637BD#32 = ((eps : ℝ) : EReal) :=
  (ofBits_fields _ false 107 407485 (by decide) (by decide) (by decide) (by decide) (by decide)).trans (congrArg _ (by unfold eps; norm_num))
theorem eps_pos : 0 < eps := by unfold eps; norm_num
/-- The reciprocal of the largest code, as its word denotes it. -/
def k448 : ℝ := 9586981 * (2 : ℝ) ^ (-32 : ℤ)
theorem ck448 : Ideal.ofBits .f32 0x3B124925#32 = ((k448 : ℝ) : EReal) :=
  (ofBits_fields _ false 118 1198373 (by decide) (by decide) (by decide) (by decide) (by decide)).trans (congrArg _ (by unfold k448; norm_num))
theorem k448_pos : 0 < k448 := by unfold k448; norm_num
theorem k448_le : k448 ≤ 1 / 400 := by unfold k448; norm_num

/-- The real a named constant denotes. -/
theorem inv_d : Named.named (F := Ideal) κ "inv_d" (φ := .f32) 0x3A638E39#32 = (((1152 : ℝ)⁻¹ : ℝ) : EReal) :=
  IdealRules.named_const.ideal_named_scalar _ _ _ _ rfl

/-! ## Reals among the extended reals -/

theorem coe_max' (a b : ℝ) : max (a : EReal) (b : EReal) = ((max a b : ℝ) : EReal) :=
  (EReal.coe_strictMono.monotone.map_max).symm
theorem coe_min' (a b : ℝ) : min (a : EReal) (b : EReal) = ((min a b : ℝ) : EReal) :=
  (EReal.coe_strictMono.monotone.map_min).symm
theorem absf_coe (a : ℝ) : FloatOps.absf (F := Ideal) (φ := .f32) ((a : ℝ) : EReal) = ((|a| : ℝ) : EReal) := by
  show max (a : EReal) (-(a : EReal)) = _
  rw [← EReal.coe_neg, coe_max']; rfl

/-- The largest magnitude of thirty-two reals. -/
def amax (f : Fin 32 → ℝ) : ℝ := Finset.univ.sup' ⟨0, Finset.mem_univ _⟩ fun a => |f a|

theorem amax_nonneg (f : Fin 32 → ℝ) : 0 ≤ amax f :=
  (abs_nonneg (f 0)).trans (Finset.le_sup' (fun a => |f a|) (Finset.mem_univ 0))

theorem amax_le {f : Fin 32 → ℝ} {M : ℝ} (h : ∀ a, |f a| ≤ M) : amax f ≤ M := Finset.sup'_le _ _ fun a _ => h a

theorem amax_mul (f : Fin 32 → ℝ) {r : ℝ} (hr : 0 < r) : amax f * r = amax fun a => f a * r := by
  have e : ∀ a, |f a * r| = |f a| * r := fun a => by rw [abs_mul, abs_of_pos hr]
  refine le_antisymm ?_ (amax_le fun a => ?_)
  · rw [← le_div_iff₀ hr]
    refine amax_le fun a => (le_div_iff₀ hr).mpr ?_
    rw [← e]
    exact Finset.le_sup' (fun a => |f a * r|) (Finset.mem_univ a)
  · rw [e]
    exact mul_le_mul_of_nonneg_right (Finset.le_sup' (fun a => |f a|) (Finset.mem_univ a)) hr.le

theorem fold_abs (f : Fin 32 → ℝ) : Finset.fold max (⊥ : EReal) (fun a => ((|f a| : ℝ) : EReal)) Finset.univ = ((amax f : ℝ) : EReal) := by
  refine le_antisymm ?_ ?_
  · exact (Finset.fold_max_le _).mpr ⟨bot_le, fun a _ => EReal.coe_le_coe_iff.mpr (Finset.le_sup' (fun a => |f a|) (Finset.mem_univ a))⟩
  · obtain ⟨a, _, ha⟩ := Finset.exists_mem_eq_sup' (⟨0, Finset.mem_univ _⟩ : (Finset.univ : Finset (Fin 32)).Nonempty) fun a => |f a|
    exact (Finset.le_fold_max _).mpr (Or.inr ⟨a, Finset.mem_univ _, EReal.coe_le_coe_iff.mpr (le_of_eq ha)⟩)

/-! ## The exponent count -/

theorem thr_word : ∀ k : Fin 255, IntOp.shli ArithUnit.vector (IntOp.addi (BitVec.ofNat 32 k.val) 1#32) 23#32
    = BitVec.ofNat 32 (k.val + 1) <<< 23 := by decide +kernel

theorem count_eq : ∀ n : Fin 255, Finset.univ.fold IntOp.addi (0#32)
    (fun k : Fin 255 => BitVec.setWidth 32 (BitVec.ofBool (decide (k.val + 1 ≤ n.val)))) = BitVec.ofNat 32 n.val := by decide +kernel

theorem sc_word : ∀ n : Fin 255, IntOp.shli ArithUnit.vector
      (Scalar.select (IntOp.cmpi CmpIPredicate.eq (BitVec.ofNat 32 n.val) 0#32) (127#32) (IntOp.addi (BitVec.ofNat 32 n.val) 1#32)) 23#32
    = (if n.val = 0 then BitVec.ofNat 32 127 else BitVec.ofNat 32 n.val + BitVec.ofNat 32 1) <<< 23 := by decide +kernel

theorem iv_word : ∀ n : Fin 255, IntOp.shli ArithUnit.vector
      (Scalar.select (IntOp.cmpi CmpIPredicate.eq (BitVec.ofNat 32 n.val) 0#32) (127#32) (IntOp.subi 253#32 (BitVec.ofNat 32 n.val))) 23#32
    = (if n.val = 0 then BitVec.ofNat 32 127 else BitVec.ofNat 32 253 - BitVec.ofNat 32 n.val) <<< 23 := by decide +kernel

theorem count_term {n : ℕ} {y : EReal} {k : ℕ} {w : BitVec 32} (hw : w = BitVec.ofNat 32 (k + 1) <<< 23)
    (h : Ideal.ofBits .f32 (BitVec.ofNat 32 (k + 1) <<< 23 : BitVec 32) ≤ y ↔ k + 1 ≤ n) (inst : Decidable (Ideal.ofBits .f32 w ≤ y)) :
    BitVec.setWidth 32 (BitVec.ofBool (@decide (Ideal.ofBits .f32 w ≤ y) inst)) = BitVec.setWidth 32 (BitVec.ofBool (decide (k + 1 ≤ n))) := by
  subst hw
  by_cases hk : k + 1 ≤ n
  · rw [decide_eq_true (h.2 hk), decide_eq_true hk]
  · rw [decide_eq_false (fun h' => hk (h.1 h')), decide_eq_false hk]

theorem eT_apply (y : FVec Ideal S4x128 .f32) (q : Fin 4) (b : Fin 128) {r : ℝ} (h0 : 0 ≤ r) (hu : r < (2 : ℝ) ^ (126 : ℤ))
    (hy : y (ix2 q b) = (r : EReal)) : eT y (ix2 q b) = BitVec.ofNat 32 (fieldOf r) := by
  have hle := fieldOf_le hu
  have ht : ∀ k : Fin 255, Ideal.ofBits .f32 (BitVec.ofNat 32 (k.val + 1) <<< 23 : BitVec 32) ≤ y (ix2 q b) ↔ k.val + 1 ≤ fieldOf r :=
    fun k => by rw [hy]; exact threshold_iff h0 hu (by omega) (by omega)
  obtain ⟨n, hn⟩ : ∃ n : Fin 255, fieldOf r = n.val := ⟨⟨fieldOf r, by omega⟩, rfl⟩
  rw [hn] at ht ⊢
  pointwise [eT]
  exact (Finset.fold_congr fun k _ => count_term (thr_word k) (ht k) _).trans (count_eq n)

theorem scT_apply (e : IVec S4x128 32) (q : Fin 4) (b : Fin 128) {r : ℝ} (hu : r < (2 : ℝ) ^ (126 : ℤ))
    (he : e (ix2 q b) = BitVec.ofNat 32 (fieldOf r)) : scT (F := Ideal) e (ix2 q b) = ((scaleOf r : ℝ) : EReal) := by
  pointwise [scT]
  have hle := fieldOf_le hu
  rw [he, sc_word ⟨fieldOf r, by omega⟩]
  exact scale_word hu

theorem ivT_apply (e : IVec S4x128 32) (q : Fin 4) (b : Fin 128) {r : ℝ} (hu : r < (2 : ℝ) ^ (126 : ℤ))
    (he : e (ix2 q b) = BitVec.ofNat 32 (fieldOf r)) : ivT (F := Ideal) e (ix2 q b) = (((scaleOf r)⁻¹ : ℝ) : EReal) := by
  pointwise [ivT]
  have hle := fieldOf_le hu
  rw [he, iv_word ⟨fieldOf r, by omega⟩]
  exact inv_word hu

/-! ## Statistics -/

/-- The sum the running sum is. -/
theorem st1_apply (o : FVec Ideal S16x128 .bf16) (X : ℕ → FVec Ideal S16x128 .bf16) (f : ℕ → ℝ) (i : Fin 16) (j : Fin 128)
    (ho : o (ix2 i j) = 1) (N : ℕ) (h : ∀ k, k ≤ N → X k (ix2 i j) = ((f (16 * k + i) : ℝ) : EReal)) :
    st1 o X N (ix2 i j) = ((∑ k ∈ Finset.range (N + 1), f (16 * k + i) : ℝ) : EReal) := by
  induction N with
  | zero =>
    pointwise [st1]
    rw [h 0 le_rfl, ho, mul_one]; simp
  | succ n ih =>
    pointwise [st1]
    rw [ih fun k hk => h k (by omega), h (n + 1) le_rfl, ho, mul_one, Finset.sum_range_succ _ (n + 1), EReal.coe_add]

theorem st2_apply (X : ℕ → FVec Ideal S16x128 .bf16) (f : ℕ → ℝ) (i : Fin 16) (j : Fin 128)
    (N : ℕ) (h : ∀ k, k ≤ N → X k (ix2 i j) = ((f (16 * k + i) : ℝ) : EReal)) :
    st2 X N (ix2 i j) = ((∑ k ∈ Finset.range (N + 1), f (16 * k + i) * f (16 * k + i) : ℝ) : EReal) := by
  induction N with
  | zero =>
    pointwise [st2]
    rw [h 0 le_rfl, ← EReal.coe_mul]; simp
  | succ n ih =>
    pointwise [st2]
    rw [ih fun k hk => h k (by omega), h (n + 1) le_rfl, Finset.sum_range_succ _ (n + 1), EReal.coe_add, ← EReal.coe_mul]

theorem sum_rows (f : ℕ → ℝ) : ∑ i : Fin 16, ∑ k ∈ Finset.range 72, f (16 * k + i) = ∑ d : Fin 1152, f d := by
  rw [Finset.sum_comm, Fin.sum_univ_eq_sum_range (fun d => f d) 1152]
  have : ∀ n, ∑ k ∈ Finset.range n, ∑ i : Fin 16, f (16 * k + i) = ∑ d ∈ Finset.range (16 * n), f d := by
    intro n
    induction n with
    | zero => simp
    | succ n ih =>
      rw [Finset.sum_range_succ, ih, Nat.mul_succ, Finset.sum_range_add, Fin.sum_univ_eq_sum_range (fun i => f (16 * n + i)) 16]
  exact this 72

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem muS_apply (s : FVec Ideal S16x128 .f32) (j : Fin 128) (f : Fin 16 → ℝ) (h : ∀ i, s (ix2 i j) = ((f i : ℝ) : EReal)) (z : Fin 1) :
    muS s (ix2 z j) = (((∑ i, f i) * (1152 : ℝ)⁻¹ : ℝ) : EReal) := by
  pointwise [muS]
  rw [inv_d, EReal.coe_mul, ← coe_sum]
  simp only [h]

theorem varS_apply (s1 s2 : FVec Ideal S16x128 .f32) (j : Fin 128) {m q : ℝ} (z : Fin 1)
    (h1 : muS s1 (ix2 z j) = (m : EReal)) (h2 : muS s2 (ix2 z j) = (q : EReal)) :
    varS s1 s2 (ix2 z j) = ((max (q - m * m) 0 + eps : ℝ) : EReal) := by
  pointwise [varS]
  rw [h1, h2, ceps, ← EReal.coe_mul, ← EReal.coe_sub, ← EReal.coe_zero, coe_max', ← EReal.coe_add]

theorem ideal_rsqrt {v : ℝ} (h : 0 < v) : Ideal.rsqrt ((v : ℝ) : EReal) = (((Real.sqrt v)⁻¹ : ℝ) : EReal) := by
  rw [Ideal.rsqrt_coe, if_neg (not_lt.mpr h.le), if_neg h.ne']

/-! ## The product that adds the shift -/

/-- The right rows: sigma in rows 0, 3, 5 and the mean in rows 6, 9, 11. -/
def bmR (s m : ℝ) : Fin 16 → ℝ := ![s, 0, 0, s, 0, s, m, 0, 0, m, 0, m, 0, 0, 0, 0]
/-- The left rows: the shift in rows 0, 1, 2 and minus the gain in rows 6, 7, 8. -/
def arR (b g : ℝ) : Fin 16 → ℝ := ![b, b, b, 0, 0, 0, -(1 + g), -(1 + g), -(1 + g), 0, 0, 0, 0, 0, 0, 0]

theorem ar_bm (b g s m : ℝ) : ∑ k, ((arR b g k : ℝ) : EReal) * ((bmR s m k : ℝ) : EReal) = ((b * s + -(1 + g) * m : ℝ) : EReal) := by
  simp only [← EReal.coe_mul, coe_sum]
  refine congrArg (fun r : ℝ => (r : EReal)) ?_
  simp [Fin.sum_univ_succ, arR, bmR]

theorem bmS_apply (sg mu : FVec Ideal S1x128 .f32) (j : Fin 128) {s m : ℝ} (hs : ∀ z, sg (ix2 z j) = (s : EReal))
    (hm : ∀ z, mu (ix2 z j) = (m : EReal)) (k : Fin 16) : bmS sg mu (ix2 k j) = ((bmR s m k : ℝ) : EReal) := by
  pointwise [bmS, up, sp1, sp2, sp3, rem1]
  simp only [hs, hm, ← EReal.coe_sub, sub_self, ← EReal.coe_zero]
  fin_cases k <;> simp [bmR]

end Cert.Hand
-- ==== Proof.Unit.lean ====
module

public import proofs.«01_k».proof.Proof.UnitOps

@[expose] public section

set_option maxRecDepth 16384

noncomputable section

/-!
What one half of the batch makes of one half of a tile, over the extended reals: the modulated row, the block
scales and the codes of every token, from what the unit loads.
-/

namespace Cert.Hand

open Idealize.ShloMosaic Idealize.ShloMosaic.TcCoe Idealize.SL.Sem
open Cert.KernelIdeal Cert.KernelIdeal.Gen

/-! ## The mathematics of a row -/

/-- A row, the gains and the shifts as functions of the column's number. -/
def fn (x : ℕ → ℝ) (d : Fin 1152) : ℝ := x d.val

/-- The modulated row. -/
def rowH (x g b : ℕ → ℝ) (d : ℕ) : ℝ := modu eps (fn x) (fn g) (fn b) ⟨d % 1152, Nat.mod_lt _ (by decide)⟩

/-- The largest magnitude of a block over the largest code. -/
def rowY (x g b : ℕ → ℝ) (k : ℕ) : ℝ := amax (fun a => rowH x g b (32 * k + a.val)) * k448

/-- A block's scale. -/
def rowS (x g b : ℕ → ℝ) (k : ℕ) : ℝ := scaleOf (rowY x g b k)

/-- A code. -/
def rowQ (x g b : ℕ → ℝ) (d : ℕ) : ℝ := min 448 (max (-448) (rowH x g b d * (rowS x g b (d / 32))⁻¹))

/-- No gain or shift of the row is above the largest finite value. -/
def Tame (g b : ℕ → ℝ) : Prop := ∀ d : Fin 1152, |g d.val| ≤ big ∧ |b d.val| ≤ big

theorem rowY_nonneg (x g b : ℕ → ℝ) (k : ℕ) : 0 ≤ rowY x g b k := mul_nonneg (amax_nonneg _) k448_pos.le

theorem rowY_lt (x : ℕ → ℝ) {g b : ℕ → ℝ} (h : Tame g b) (k : ℕ) : rowY x g b k < (2 : ℝ) ^ (126 : ℤ) := by
  have hb : (0 : ℝ) ≤ big := by unfold big; norm_num
  have h1 : amax (fun a => rowH x g b (32 * k + a.val)) ≤ 34 + 35 * big := amax_le fun a => modu_bound eps_pos hb _ _ _ _ (h _).1 (h _).2
  have h2 : rowY x g b k ≤ (34 + 35 * big) * (1 / 400) :=
    mul_le_mul h1 k448_le k448_pos.le (by positivity)
  refine h2.trans_lt ?_
  unfold big; norm_num

/-! ## A unit -/

/-- What a unit is given: its tokens' rows, the gains and shifts of its batch entry, and the ones. -/
structure Given (l : Ld Ideal) (u : ℕ) (x : ℕ → ℕ → ℝ) (g b : ℕ → ℝ) : Prop where
  xk : ∀ k, k < 72 → ∀ (i : Fin 16) (j : Fin 128), l.xk u k (ix2 i j) = ((x j.val (16 * k + i.val) : ℝ) : EReal)
  xc : ∀ c, c < 9 → ∀ i j : Fin 128, l.xc u c (ix2 i j) = ((x j.val (128 * c + i.val) : ℝ) : EReal)
  gain : ∀ c, c < 9 → ∀ i j : Fin 128, l.g u c (ix3 0 i j) = ((1 + g (128 * c + i.val) : ℝ) : EReal)
  rows : ∀ c, c < 9 → ∀ (i : Fin 128) (k : Fin 16), l.a u c (ix3 0 i k) = ((arR (b (128 * c + i.val)) (g (128 * c + i.val)) k : ℝ) : EReal)
  one : ∀ (i : Fin 16) (j : Fin 128), l.one (ix2 i j) = 1
  tame : Tame g b

variable {l : Ld Ideal} {u : ℕ} {x : ℕ → ℕ → ℝ} {g b : ℕ → ℝ} (H : Given l u x g b)
include H

theorem mu_eq (j : Fin 128) (z : Fin 1) : muS (sum1 l u) (ix2 z j) = ((mean (fn (x j)) : ℝ) : EReal) := by
  unfold sum1
  rw [muS_apply _ j _ (fun i => st1_apply _ _ (x j) i j (H.one i j) 71 fun k hk => H.xk k (by omega) i j) z, sum_rows]
  rfl

theorem sq_eq (j : Fin 128) (z : Fin 1) : muS (sum2 l u) (ix2 z j) = (((∑ d, fn (x j) d * fn (x j) d) * (1152 : ℝ)⁻¹ : ℝ) : EReal) := by
  unfold sum2
  rw [muS_apply _ j _ (fun i => st2_apply _ (x j) i j 71 fun k hk => H.xk k (by omega) i j) z, sum_rows (fun d => x j d * x j d)]
  rfl

theorem var_eq (j : Fin 128) (z : Fin 1) : varS (sum1 l u) (sum2 l u) (ix2 z j) = ((vari (fn (x j)) + eps : ℝ) : EReal) := by
  rw [varS_apply _ _ j z (mu_eq H j z) (sq_eq H j z), onePass_max]

theorem rs_eq (j : Fin 128) (z : Fin 1) : rsL l u (ix2 z j) = ((rs eps (fn (x j)) : ℝ) : EReal) := by
  show Ideal.rsqrt (varS (sum1 l u) (sum2 l u) (ix2 z j)) = _
  rw [var_eq H, ideal_rsqrt (by have := vari_nonneg (fn (x j)); have := eps_pos; linarith)]
  rfl

theorem sg_eq (j : Fin 128) (z : Fin 1) :
    sgS (sum1 l u) (sum2 l u) (ix2 z j) = (((vari (fn (x j)) + eps) * rs eps (fn (x j)) : ℝ) : EReal) := by
  show varS (sum1 l u) (sum2 l u) (ix2 z j) * rsL l u (ix2 z j) = _
  rw [var_eq H, rs_eq H, EReal.coe_mul]

theorem z_eq (c : ℕ) (hc : c < 9) (i j : Fin 128) :
    zL l u c (ix2 i j) = ((pre eps (fn (x j)) (fn g) (fn b) ⟨128 * c + i.val, by omega⟩ : ℝ) : EReal) := by
  unfold zL
  pointwise [zT]
  have hb : ∀ k, bmL l u (ix2 k j) = ((bmR ((vari (fn (x j)) + eps) * rs eps (fn (x j))) (mean (fn (x j))) k : ℝ) : EReal) :=
    fun k => bmS_apply _ _ j (sg_eq H j) (mu_eq H j) k
  simp only [hb, H.rows c hc, H.xc c hc, H.gain c hc, ar_bm]
  rw [← EReal.coe_mul, ← EReal.coe_add]
  rfl

theorem zr_eq (c : ℕ) (hc : c < 9) (i j : Fin 128) :
    pre eps (fn (x j)) (fn g) (fn b) ⟨128 * c + i.val, by omega⟩ * rs eps (fn (x j)) = rowH (x j) g b (128 * c + i.val) := by
  rw [pre_rs eps_pos]
  unfold rowH
  congr 1
  exact Fin.ext (Nat.mod_eq_of_lt (by omega)).symm

theorem y_eq (c : ℕ) (hc : c < 9) (q : Fin 4) (j : Fin 128) :
    yT (zL l u c) (rsL l u) (ix2 q j) = ((rowY (x j) g b (4 * c + q.val) : ℝ) : EReal) := by
  pointwise [yT]
  simp only [z_eq H c hc, absf_coe, cbot]
  rw [fold_abs (fun a => pre eps (fn (x j)) (fn g) (fn b) ⟨128 * c + (q.val * 32 + a.val), by omega⟩), rs_eq H, ck448, ← EReal.coe_mul, ← EReal.coe_mul,
    amax_mul _ (rs_pos eps_pos _)]
  have e : (fun a : Fin 32 => pre eps (fn (x j)) (fn g) (fn b) ⟨128 * c + (q.val * 32 + a.val), by omega⟩ * rs eps (fn (x j)))
      = fun a : Fin 32 => rowH (x j) g b (32 * (4 * c + q.val) + a.val) := by
    funext a
    rw [zr_eq H c hc ⟨q.val * 32 + a.val, by omega⟩ j]
    congr 1
    show 128 * c + (q.val * 32 + a.val) = _
    omega
  rw [e]
  rfl

theorem e_eq (c : ℕ) (hc : c < 9) (q : Fin 4) (j : Fin 128) :
    eL l u c (ix2 q j) = BitVec.ofNat 32 (fieldOf (rowY (x j) g b (4 * c + q.val))) := by
  unfold eL
  exact eT_apply _ q j (rowY_nonneg _ _ _ _) (rowY_lt _ H.tame _) (y_eq H c hc q j)

/-- The scale of a block. -/
theorem s_eq (c : ℕ) (hc : c < 9) (q : Fin 4) (j : Fin 128) :
    scT (F := Ideal) (eL l u c) (ix2 q j) = ((rowS (x j) g b (4 * c + q.val) : ℝ) : EReal) :=
  scT_apply _ q j (rowY_lt _ H.tame _) (e_eq H c hc q j)

/-- The code of an element. -/
theorem q_eq (c : ℕ) (hc : c < 9) (i j : Fin 128) :
    qL l u c (ix2 i j) = ((rowQ (x j) g b (128 * c + i.val) : ℝ) : EReal) := by
  unfold qL
  pointwise [codeT]
  have hi : i.val / 32 < 4 := by omega
  rw [z_eq H c hc, rs_eq H, ivT_apply (eL l u c) ⟨i.val / 32, hi⟩ j (rowY_lt _ H.tame _) (e_eq H c hc _ j), c448, cm448,
    ← EReal.coe_mul, ← EReal.coe_mul, coe_max', coe_min', ← mul_assoc, zr_eq H c hc]
  have : (128 * c + i.val) / 32 = 4 * c + i.val / 32 := by omega
  unfold rowQ rowS
  rw [this]

/-- The dequantised value of an element. -/
theorem xw_eq (c : ℕ) (hc : c < 9) (i j : Fin 128) :
    xwT (qL l u c) (eL l u c) (ix2 i j)
      = ((rowQ (x j) g b (128 * c + i.val) * rowS (x j) g b ((128 * c + i.val) / 32) : ℝ) : EReal) := by
  pointwise [xwT]
  have hi : i.val / 32 < 4 := by omega
  have : (128 * c + i.val) / 32 = 4 * c + i.val / 32 := by omega
  rw [q_eq H c hc, s_eq H c hc ⟨i.val / 32, hi⟩ j, ← EReal.coe_mul, this]

omit H

/-! ## The image -/

/-- The row of the eight that pixel `(i, j)` of the unpatched image reads. -/
def imgRow (i j : ℕ) : ℕ := i % 4 + 4 * (j % 2)
/-- The lane. -/
def imgCol (i j : ℕ) : ℕ := j / 2 + 64 * (i / 4)

theorem col_lo : ∀ b : Fin 128, (Scalar.select (IntOp.cmpi CmpIPredicate.slt (IntOp.shrsi ArithUnit.vector (BitVec.ofNat 32 b.val) 1#32) 0#32)
      (IntOp.addi (IntOp.shrsi ArithUnit.vector (BitVec.ofNat 32 b.val) 1#32) 128#32)
      (IntOp.shrsi ArithUnit.vector (BitVec.ofNat 32 b.val) 1#32)).toNat % 128 = b.val / 2 := by decide +kernel

theorem col_hi : ∀ b : Fin 128, (Scalar.select
      (IntOp.cmpi CmpIPredicate.slt (IntOp.addi (IntOp.shrsi ArithUnit.vector (BitVec.ofNat 32 b.val) 1#32) 64#32) 0#32)
      (IntOp.addi (IntOp.addi (IntOp.shrsi ArithUnit.vector (BitVec.ofNat 32 b.val) 1#32) 64#32) 128#32)
      (IntOp.addi (IntOp.shrsi ArithUnit.vector (BitVec.ofNat 32 b.val) 1#32) 64#32)).toNat % 128 = b.val / 2 + 64 := by decide +kernel

theorem low_rows : ∀ i : Fin 8, IntOp.cmpi CmpIPredicate.slt (BitVec.ofNat 32 i.val) 4#32 = if i.val < 4 then 1#1 else 0#1 := by decide
theorem even_lanes : ∀ b : Fin 128, IntOp.cmpi CmpIPredicate.eq (IntOp.andi (BitVec.ofNat 32 b.val) 1#32) 0#32 = if b.val % 2 = 0 then 1#1 else 0#1 := by
  decide +kernel

theorem imgT_apply (vp : FVec Ideal S8x128 .f32) (i : Fin 8) (j : Fin 128) :
    imgT vp (ix2 i j) = vp (ix2 ⟨imgRow i j, by unfold imgRow; omega⟩ ⟨imgCol i j, by unfold imgCol; omega⟩) := by
  pointwise [imgT, gix, lane2, evenL]
  simp only [col_lo, col_hi, low_rows, even_lanes]
  by_cases hi : i.val < 4 <;> by_cases hj : j.val % 2 = 0
  all_goals
    simp only [hi, hj, ↓reduceIte, ValueIdx.select_one, ValueIdx.select_zero]
    refine congrArg vp (congrArg₂ ix2 (Fin.ext ?_) (Fin.ext ?_)) <;> simp only [imgRow, imgCol] <;> omega

end Cert.Hand
-- ==== Proof.Spec.lean ====
module

public import proofs.«01_k».proof.Proof.Unit

@[expose] public section

noncomputable section

/-!
The four results over the argument arrays: the modulated layer norm of a token, its codes and scales a block of 32 channels,
the projection of the dequantised values, the guided velocity, and its image.
-/

namespace Cert.Hand

open Idealize.ShloMosaic

/-- The dequantised value. -/
def deq (x g b : ℕ → ℝ) (d : ℕ) : ℝ := rowQ x g b d * rowS x g b (d / 32)

/-- A row of the projection of a token. -/
def prj (w : Fin 1152 → EReal) (ws bo : EReal) (a : ℕ → ℝ) : EReal := (∑ d : Fin 1152, w d * ((a d.val : ℝ) : EReal)) * ws + bo

/-- Guidance. -/
def guide (g y0 y1 : EReal) : EReal := y1 + g * (y0 - y1)

/-- The argument arrays. -/
structure Args where
  a0 : (⟨3, ![6, 3072, 1152]⟩ : Shape).Idx → EReal
  a1 : (⟨2, ![6, 1152]⟩ : Shape).Idx → EReal
  a2 : (⟨2, ![6, 1152]⟩ : Shape).Idx → EReal
  a3 : (⟨2, ![1152, 16]⟩ : Shape).Idx → EReal
  a4 : (⟨1, ![16]⟩ : Shape).Idx → EReal
  a5 : (⟨1, ![16]⟩ : Shape).Idx → EReal
  a6 : (⟨1, ![3]⟩ : Shape).Idx → EReal
  a7 : (⟨1, ![3]⟩ : Shape).Idx → EReal
  a8 : (⟨1, ![3]⟩ : Shape).Idx → EReal
  a9 : (⟨4, ![3, 4, 96, 128]⟩ : Shape).Idx → EReal

namespace Args

variable (A : Args)

/-- The activations are real, the shifts and the scales numbers of their format. -/
structure Ok : Prop where
  x : ∀ i, A.a0 i = ((A.a0 i).toReal : EReal)
  b : ∀ i, A.a1 i = ((A.a1 i).toReal : EReal) ∧ |(A.a1 i).toReal| ≤ big
  g : ∀ i, A.a2 i = ((A.a2 i).toReal : EReal) ∧ |(A.a2 i).toReal| ≤ big

def X (R s d : ℕ) : ℝ := (A.a0 (ix3 (⟨R % 6, Nat.mod_lt _ (by decide)⟩ : Fin 6) (⟨s % 3072, Nat.mod_lt _ (by decide)⟩ : Fin 3072) (⟨d % 1152, Nat.mod_lt _ (by decide)⟩ : Fin 1152))).toReal
def B (R d : ℕ) : ℝ := (A.a1 (ix2 (⟨R % 6, Nat.mod_lt _ (by decide)⟩ : Fin 6) (⟨d % 1152, Nat.mod_lt _ (by decide)⟩ : Fin 1152))).toReal
def G (R d : ℕ) : ℝ := (A.a2 (ix2 (⟨R % 6, Nat.mod_lt _ (by decide)⟩ : Fin 6) (⟨d % 1152, Nat.mod_lt _ (by decide)⟩ : Fin 1152))).toReal

/-- A code. -/
def code (R s d : ℕ) : EReal := ((rowQ (A.X R s) (A.G R) (A.B R) d : ℝ) : EReal)
/-- A scale. -/
def scale (R s k : ℕ) : EReal := ((rowS (A.X R s) (A.G R) (A.B R) k : ℝ) : EReal)
/-- The projection of token `s` of batch row `R`. -/
def proj (R s o : ℕ) : EReal :=
  prj (fun d => A.a3 (ix2 d (⟨o % 16, Nat.mod_lt _ (by decide)⟩ : Fin 16))) (A.a4 (ix1 (⟨o % 16, Nat.mod_lt _ (by decide)⟩ : Fin 16)))
    (A.a5 (ix1 (⟨o % 16, Nat.mod_lt _ (by decide)⟩ : Fin 16))) (deq (A.X R s) (A.G R) (A.B R))
/-- The guided velocity of token `s` of batch entry `b`. -/
def velo (b s o : ℕ) : EReal := guide (A.a6 (ix1 (⟨b % 3, Nat.mod_lt _ (by decide)⟩ : Fin 3))) (A.proj (0 * 3 + b) s o) (A.proj (1 * 3 + b) s o)
/-- … as an image. -/
def img (b ch y x : ℕ) : EReal := A.velo b (64 * (y / 2) + x / 2) (8 * (y % 2) + 4 * (x % 2) + ch)
/-- The next latent. -/
def lat (b : Fin 3) (ch : Fin 4) (y : Fin 96) (x : Fin 128) : EReal :=
  A.a9 (ix4 b ch y x) + (A.a8 (ix1 b) - A.a7 (ix1 b)) * A.img b.val ch.val y.val x.val

theorem Ok.tame {A : Args} (h : A.Ok) (R : ℕ) : Tame (A.G R) (A.B R) := fun d => ⟨(h.g _).2, (h.b _).2⟩

end Args

end Cert.Hand
-- ==== Proof.Loads.lean ====
module

public import proofs.«01_k».proof.Proof.Pieces

@[expose] public section

set_option maxRecDepth 16384

noncomputable section

/-!
What the two cases of the body load: the case that sets up a batch entry reads its own stores back, the other what the point before left.
-/

namespace Cert.Hand

open Idealize.ShloMosaic Idealize.ShloMosaic.TcCoe Idealize.SL.Sem Idealize.ShloMosaic.Tactic
open Cert.KernelIdeal Cert.KernelIdeal.Gen

variable {F : FTy → Type} [FloatOps F] [Named F]
variable (c : Dev nD) (i : grid0.Coords)
  (arg2 : Memref sig .tc .smem S3x3 .f32) (harg2 : arg2.IsWhole)
  (arg3 : Memref sig .tc .vmem S2x1x256x1152 .bf16) (harg3 : arg3.IsWhole)
  (arg4 : Memref sig .tc .vmem S2x1x1x1152 .f32) (harg4 : arg4.IsWhole)
  (arg5 : Memref sig .tc .vmem S2x1x1x1152 .f32) (harg5 : arg5.IsWhole)
  (arg6 : Memref sig .tc .vmem S16x1152 .fp8e4m3) (harg6 : arg6.IsWhole)
  (arg7 : Memref sig .tc .vmem S16x1 .f32) (harg7 : arg7.IsWhole)
  (arg8 : Memref sig .tc .vmem S16x1 .f32) (harg8 : arg8.IsWhole)
  (arg9 : Memref sig .tc .vmem S1x4x8x128 .f32) (harg9 : arg9.IsWhole)
  (arg10 : Memref sig .tc .vmem S1x4x8x128 .f32) (harg10 : arg10.IsWhole)
  (arg11 : Memref sig .tc .vmem S1x4x8x128 .f32) (harg11 : arg11.IsWhole)
  (arg12 : Memref sig .tc .vmem S2x1x256x1152 .fp8e4m3) (harg12 : arg12.IsWhole)
  (arg13 : Memref sig .tc .vmem S2x1x36x256 .f32) (harg13 : arg13.IsWhole)
  (arg14 : Memref sig .tc .vmem S2x1152x16 .bf16) (harg14 : arg14.IsWhole)
  (arg15 : Memref sig .tc .vmem S2x1152x128 .f32) (harg15 : arg15.IsWhole)
  (arg16 : Memref sig .tc .vmem S2x2x1152x128 .bf16) (harg16 : arg16.IsWhole)
  (arg17 : Memref sig .tc .vmem S1152x128 .f32) (harg17 : arg17.IsWhole)
  (arg18 : Memref sig .tc .vmem S1152x128 .fp8e4m3) (harg18 : arg18.IsWhole)
  (arg19 : Memref sig .tc .vmem S2x2x1152x128 .bf16) (harg19 : arg19.IsWhole)
  (arg20 : Memref sig .tc .vmem S16x128 .bf16) (harg20 : arg20.IsWhole)
  (x0 : Vec F S3x3 .f32) (x1 : Vec F S2x1x256x1152 .bf16) (x2 : Vec F S2x1x1x1152 .f32) (x3 : Vec F S2x1x1x1152 .f32) (x4 : Vec F S16x1152 .fp8e4m3) (x5 : Vec F S16x1 .f32) (x6 : Vec F S16x1 .f32) (x7 : Vec F S1x4x8x128 .f32)
  (xs0 : Vec F S2x1152x16 .bf16) (xs1 : Vec F S2x1152x128 .f32) (xs6 : Vec F S16x128 .bf16)

/-- The loads of a unit at a batch entry's first tile. -/
def ldA : Ld F where
  xk u k := xkRd arg16 (HX arg3 harg3 x1 (9 * (u + 1))) u k
  xc u c := xcRd arg16 (HX arg3 harg3 x1 (9 * (u + 1))) u c
  g u c := arg15.view.readCov (HG arg4 harg4 x2 18) (Rect.unit (s := S2x1152x128) ![u % 2, 128 * (c % 9), 0] S1x128x128.size (inbG u c)).toLoadRect
  a u c := arg14.view.readCov (HA arg4 harg4 arg5 harg5 x2 x3 18) (Rect.unit (s := S2x1152x16) ![u % 2, 128 * (c % 9), 0] S1x128x16.size (inbA u c)).toLoadRect
  one := arg20.view.readCov HO (Rect.unit (s := S16x128) ![0, 0] S16x128.size inbO).toLoadRect

/-- The loads of a unit at any other tile. -/
def ldB : Ld F where
  xk u k := xkRd arg16 (HX arg3 harg3 x1 (9 * (u + 1))) u k
  xc u c := xcRd arg16 (HX arg3 harg3 x1 (9 * (u + 1))) u c
  g u c := View.readAt (Elt F) arg15.view (Rect.unit (s := S2x1152x128) ![u % 2, 128 * (c % 9), 0] S1x128x128.size (inbG u c)).toLoadRect (harg15.unread xs1)
  a u c := View.readAt (Elt F) arg14.view (Rect.unit (s := S2x1152x16) ![u % 2, 128 * (c % 9), 0] S1x128x16.size (inbA u c)).toLoadRect (harg14.unread xs0)
  one := View.readAt (Elt F) arg20.view (Rect.unit (s := S16x128) ![0, 0] S16x128.size inbO).toLoadRect (harg20.unread xs6)

/-- The projection's loads. -/
def pj : Pj F where
  w := View.readAt (Elt F) arg6.view (Rect.unit (s := S16x1152) ![0, 0] S16x1152.size inbW).toLoadRect (harg6.unread x4)
  ws := View.readAt (Elt F) arg7.view (Rect.unit (s := S16x1) ![0, 0] S16x1.size inbB).toLoadRect (harg7.unread x5)
  bo := View.readAt (Elt F) arg8.view (Rect.unit (s := S16x1) ![0, 0] S16x1.size inbB).toLoadRect (harg8.unread x6)
  gd := View.readAt (Elt F) arg2.view (Rect.unit (s := S3x3) (k0_off1 i) S1x1.size (k0_off1_inb i)).toLoadRect (harg2.unread x0) (Shape.Idx.first (show 0 < S1x1.numel from by decide))
  dt := Scalar.subf (View.readAt (Elt F) arg2.view (Rect.unit (s := S3x3) (k0_off2 i) S1x1.size (k0_off2_inb i)).toLoadRect (harg2.unread x0) (Shape.Idx.first (show 0 < S1x1.numel from by decide)))
    (View.readAt (Elt F) arg2.view (Rect.unit (s := S3x3) (k0_off3 i) S1x1.size (k0_off3_inb i)).toLoadRect (harg2.unread x0) (Shape.Idx.first (show 0 < S1x1.numel from by decide)))
  lat a b c := View.readAt (Elt F) arg9.view (Rect.unit (s := S1x4x8x128) ![0, 0, 4 * (a % 2) + 2 * (c % 2) + b % 2, 0] S1x4x1x128.size (inbI a b c)).toLoadRect (harg9.unread x7)

end Cert.Hand
-- ==== Proof.Copies.lean ====
module

public import proofs.«01_k».proof.Proof.Loads
public import proofs.«01_k».proof.Proof.Unit
public import Idealize.ShloMosaic.Lib.Pointwise
public import Idealize.ShloMosaic.Lib.Pipeline.ValueKit

@[expose] public section

set_option maxRecDepth 16384

noncomputable section

/-!
What the body reads back of its own stores: the tile's activations transposed, the gains, the terms' rows, the ones.
-/

namespace Cert.Hand

open Idealize.ShloMosaic Idealize.ShloMosaic.TcCoe Idealize.SL.Sem
open Cert.KernelIdeal Cert.KernelIdeal.Gen

theorem mem_lst {α : Type} (P : ℕ → α) (p : α) : ∀ N, p ∈ lst P N → ∃ n, n < N ∧ p = P n
  | 0, h => absurd h List.not_mem_nil
  | N + 1, h => by
    rcases List.mem_cons.mp h with h | h
    · exact ⟨N, by omega, h⟩
    · obtain ⟨n, hn, e⟩ := mem_lst P p N h
      exact ⟨n, by omega, e⟩

theorem lst_mem {α : Type} (P : ℕ → α) (n : ℕ) : ∀ N, n < N → P n ∈ lst P N
  | 0, h => by omega
  | N + 1, h => by
    rcases Nat.lt_or_ge n N with h' | h'
    · exact List.mem_cons_of_mem _ (lst_mem P n N h')
    · obtain rfl : n = N := by omega
      exact List.mem_cons_self

/-- A list of stores whose payloads are blocks of one function of the coordinates holds that function wherever a store lands. -/
theorem canon_lst {S : Shape} {e : EltTy} (off : ℕ → Fin S.rank → ℕ) (size : Fin S.rank → ℕ) (inb : ∀ n a, off n a + size a ≤ S.size a)
    (pay : ∀ n, (Rect.unit (s := S) (off n) size (inb n)).shape.Idx → Elt Ideal e) (G : (Fin S.rank → ℕ) → Elt Ideal e) (N : ℕ)
    (h : ∀ n, n < N → ∀ x : (Rect.unit (s := S) (off n) size (inb n)).shape.Idx, pay n x = G (fun a => off n a + (x a).val))
    (y : S.Idx) (n : ℕ) (hn : n < N) (hy : ∀ a, off n a ≤ (y a).val ∧ (y a).val < off n a + size a) :
    View.canon (lst (fun n => (⟨Rect.unit (s := S) (off n) size (inb n), pay n⟩ : View.Piece (Elt Ideal) S e)) N) y = G (fun a => (y a).val) := by
  refine View.canon_apply_of_pieces (fun y => G (fun a => (y a).val)) _ ?_ y ⟨_, lst_mem _ n N hn, (Rect.mem_set_unit (inb := inb n)).mpr hy⟩
  intro p hp
  obtain ⟨m, hm, e⟩ := mem_lst _ p N hp
  rw [e]
  intro x
  exact (h m hm x).trans (congrArg G (funext fun a => (Rect.idx_unit_val _ _ _ x a).symm))

theorem payX (v : Vec Ideal S1x1x128x128 .bf16) (i j : Fin 128) (a b : Fin 1) :
    shapeCast S1x1x128x128 (shapeCast S128x128 (transpose S128x128 [1, 0] (shapeCast S128x128 v shapeCasts_S1x1x128x128_S128x128)
      transposes_S128x128_p1_0_S128x128) shapeCasts_S128x128_S128x128) shapeCasts_S128x128_S1x1x128x128 (ix4 a b i j) = v (ix4 0 0 j i) := by
  pointwise

theorem HX_at (arg3 : Memref sig .tc .vmem S2x1x256x1152 .bf16) (harg3 : arg3.IsWhole) (x1 : Vec Ideal S2x1x256x1152 .bf16) (u : ℕ) (hu : u < 4)
    (d : Fin 1152) (j : Fin 128) :
    View.canon (HX arg3 harg3 x1 (9 * (u + 1))) (ix4 ⟨u % 2, m2 u⟩ ⟨u / 2 % 2, m2 _⟩ d j)
      = x1 (ix4 ⟨u % 2, m2 u⟩ 0 ⟨128 * (u / 2 % 2) + j.val, by have := m2 (u / 2); omega⟩ d) := by
  refine (canon_lst (S := S2x2x1152x128) _ _ _ _ (fun v => x1 (ix4 ⟨v 0 % 2, m2 _⟩ 0 ⟨(128 * v 1 + v 3) % 256, Nat.mod_lt _ (by decide)⟩ ⟨v 2 % 1152, Nat.mod_lt _ (by decide)⟩)) _ ?_ _
    (9 * u + d.val / 128) (by omega) ?_).trans ?_
  · intro n hn x
    have h2 := m2 (n / 18)
    have h3 := m2 (n / 9)
    have h9 := m9 n
    change S1x1x128x128.Idx at x
    idx_vars x
    refine (payX _ _ _ _ _).trans ?_
    rw [View.readAt_eq_ld, harg3.read_unread]
    refine View.ld_unit_apply_of _ _ _ _ _ _ fun a => ?_
    fin_cases a <;> simp [ix4] <;> omega
  · intro a
    have := m2 u
    have := m2 (u / 2)
    fin_cases a <;> simp [ix4, S1x1x128x128] <;> omega
  · have := m2 u
    have := m2 (u / 2)
    refine congrArg x1 ?_
    funext a
    fin_cases a <;> apply Fin.ext <;> simp [ix4] <;> omega

/-- A load through a unit's plane reads the plane. -/
theorem rd2_at (arg16 : Memref sig .tc .vmem S2x2x1152x128 .bf16) (L : List (View.Piece (Elt Ideal) S2x2x1152x128 .bf16)) (u : ℕ) (r : LoadRect S1152x128)
    (y : r.shape.Idx) (d : Fin 1152) (j : Fin 128) (h : r.idx y = ix2 d j) :
    rd2 arg16 L u r y = View.canon L (ix4 ⟨u % 2, m2 u⟩ ⟨u / 2 % 2, m2 _⟩ d j) := by
  have h1 := LoadRect.liftsTo_consLift (lr := r) ![1, 1152, 128] rfl (fun i => by fin_cases i <;> rfl)
  have h2 := LoadRect.liftsTo_consLift (lr := LoadRect.consLift r ![1, 1152, 128] rfl (fun i => by fin_cases i <;> rfl)) ![1, 1, 1152, 128] rfl
    (fun i => by fin_cases i <;> rfl)
  have h3 := h1.trans h2 y
  rw [h] at h3
  unfold rd2 LoadRect.valAlong
  rw [View.readCov_eq_canon']
  refine congrArg (View.canon L) ?_
  refine (Rect.idx_withinL (Rect.unit (s := S2x2x1152x128) ![u % 2, u / 2 % 2, 0, 0] S1x1x1152x128.size (inbXU u (u / 2))) (lift2 r) (fun _ => rfl) _).trans ?_
  have h4 : (lift2 r).idx (Shape.reshapeEquiv (numel_box2 u r) y) = (ix4 0 0 d j : S1x1x1152x128.Idx) := by
    refine h3.symm.trans ?_
    pointwise
  refine (congrArg _ h4).trans ?_
  funext a
  apply Fin.ext
  rw [Rect.emb_apply]
  fin_cases a <;> simp [ix4]

theorem xkRd_at (arg16 : Memref sig .tc .vmem S2x2x1152x128 .bf16) (L : List (View.Piece (Elt Ideal) S2x2x1152x128 .bf16)) (u k : ℕ) (hk : k < 72) (i : Fin 16) (j : Fin 128) :
    xkRd arg16 L u k (ix2 i j) = View.canon L (ix4 ⟨u % 2, m2 u⟩ ⟨u / 2 % 2, m2 _⟩ ⟨16 * k + i.val, by omega⟩ j) := by
  have h : (Rect.unit (s := S1152x128) ![16 * (k % 72), 0] S16x128.size (inbK k)).toLoadRect.idx (ix2 i j : S16x128.Idx) = ix2 ⟨16 * k + i.val, by omega⟩ j := by
    funext a
    apply Fin.ext
    refine (Rect.idx_unit_val _ _ _ _ a).trans ?_
    fin_cases a <;> simp [ix2] <;> omega
  unfold xkRd
  exact rd2_at arg16 L u _ _ _ _ h

theorem xcRd_at (arg16 : Memref sig .tc .vmem S2x2x1152x128 .bf16) (L : List (View.Piece (Elt Ideal) S2x2x1152x128 .bf16)) (u c : ℕ) (hc : c < 9) (i j : Fin 128) :
    xcRd arg16 L u c (ix2 i j) = View.canon L (ix4 ⟨u % 2, m2 u⟩ ⟨u / 2 % 2, m2 _⟩ ⟨128 * c + i.val, by omega⟩ j) := by
  have h : (Rect.unit (s := S1152x128) ![128 * (c % 9), 0] S128x128.size (inbC c)).toLoadRect.idx (ix2 i j : S128x128.Idx) = ix2 ⟨128 * c + i.val, by omega⟩ j := by
    funext a
    apply Fin.ext
    refine (Rect.idx_unit_val _ _ _ _ a).trans ?_
    fin_cases a <;> simp [ix2] <;> omega
  unfold xcRd
  exact rd2_at arg16 L u _ _ _ _ h

/-- One chunk of the spread gain. -/
theorem gP_at (x : Vec Ideal S1x1x1x1152 .f32) (c : ℕ) (i j : Fin 128) (a : Fin 1) :
    gP x c (ix3 a i j) = 1 + x (ix4 0 0 0 ⟨128 * (c % 9) + i.val, by have := m9 c; omega⟩) := by
  have := m9 c
  pointwise [gP, gainS]

theorem HG_at (arg4 : Memref sig .tc .vmem S2x1x1x1152 .f32) (harg4 : arg4.IsWhole) (x2 : Vec Ideal S2x1x1x1152 .f32) (r : Fin 2) (d : Fin 1152) (j : Fin 128) :
    View.canon (HG arg4 harg4 x2 18) (ix3 r d j) = 1 + x2 (ix4 r 0 0 d) := by
  refine (canon_lst (S := S2x1152x128) _ _ _ _ (fun v => 1 + x2 (ix4 ⟨v 0 % 2, m2 _⟩ 0 0 ⟨v 1 % 1152, Nat.mod_lt _ (by decide)⟩)) _ ?_ _
    (9 * r.val + d.val / 128) (by omega) ?_).trans ?_
  · intro n hn x
    have h3 := m2 (n / 9)
    have h9 := m9 n
    change S1x128x128.Idx at x
    idx_vars x
    refine (gP_at _ _ _ _ _).trans (congrArg (1 + ·) ?_)
    rw [View.readAt_eq_ld, harg4.read_unread]
    refine View.ld_unit_apply_of _ _ _ _ _ _ fun a => ?_
    fin_cases a <;> simp [ix4, ix3] <;> omega
  · intro a
    fin_cases a <;> simp [ix3, S1x128x128] <;> omega
  · refine congrArg (fun i => 1 + x2 i) ?_
    funext a
    fin_cases a <;> apply Fin.ext <;> simp [ix4, ix3] <;> omega

end Cert.Hand
-- ==== Proof.Given.lean ====
module

public import proofs.«01_k».proof.Proof.Copies

@[expose] public section

set_option maxRecDepth 16384

noncomputable section

/-!
What a unit is given, in the case of the body that sets up a batch entry and in the other.
-/

namespace Cert.Hand

open Idealize.ShloMosaic Idealize.ShloMosaic.TcCoe Idealize.SL.Sem
open Cert.KernelIdeal Cert.KernelIdeal.Gen

theorem rowsS_at (xg xb : Vec Ideal S1x1x1x1152 .f32) (k : Fin 16) (d : Fin 1152) {G B : ℝ} (hg : xg (ix4 0 0 0 d) = (G : EReal)) (hb : xb (ix4 0 0 0 d) = (B : EReal)) :
    rowsS xg xb (ix2 k d) = ((arR B G k : ℝ) : EReal) := by
  pointwise [rowsS, up, sp1, sp2, sp3, rem1, ngainS, gainS, shiftS]
  simp only [hg, hb, ← EReal.coe_one, ← EReal.coe_zero, ← EReal.coe_add, ← EReal.coe_sub, sub_self]
  fin_cases k <;> simp [arR]

theorem aP_at (xg xb : Vec Ideal S1x1x1x1152 .f32) (c : ℕ) (i : Fin 128) (k : Fin 16) (a : Fin 1) :
    aP xg xb c (ix3 a i k) = rowsS xg xb (ix2 k ⟨128 * (c % 9) + i.val, by have := m9 c; omega⟩) := by
  have := m9 c
  pointwise [aP]

theorem HA_at (arg4 : Memref sig .tc .vmem S2x1x1x1152 .f32) (harg4 : arg4.IsWhole) (arg5 : Memref sig .tc .vmem S2x1x1x1152 .f32) (harg5 : arg5.IsWhole)
    (x2 x3 : Vec Ideal S2x1x1x1152 .f32) (G B : ℕ → ℕ → ℝ)
    (h2 : ∀ (r : Fin 2) (d : Fin 1152), x2 (ix4 r 0 0 d) = ((G r.val d.val : ℝ) : EReal))
    (h3 : ∀ (r : Fin 2) (d : Fin 1152), x3 (ix4 r 0 0 d) = ((B r.val d.val : ℝ) : EReal)) (r : Fin 2) (d : Fin 1152) (k : Fin 16) :
    View.canon (HA arg4 harg4 arg5 harg5 x2 x3 18) (ix3 r d k) = ((arR (B r.val d.val) (G r.val d.val) k : ℝ) : EReal) := by
  refine (canon_lst (S := S2x1152x16) _ _ _ _ (fun v => ((arR (B (v 0) (v 1)) (G (v 0) (v 1)) ⟨v 2 % 16, Nat.mod_lt _ (by decide)⟩ : ℝ) : EReal)) _ ?_ _
    (9 * r.val + d.val / 128) (by omega) ?_).trans ?_
  · intro n hn x
    have hn2 := m2 (n / 9)
    have h9 := m9 n
    change S1x128x16.Idx at x
    rename' x => z
    idx_vars z
    refine (aP_at _ _ _ _ _ _).trans ((rowsS_at _ _ _ _ (G := G (n / 9 % 2) (128 * (n % 9) + z1.val)) (B := B (n / 9 % 2) (128 * (n % 9) + z1.val)) ?_ ?_).trans ?_)
    · rw [View.readAt_eq_ld, harg4.read_unread]
      refine (View.ld_unit_apply_of _ _ _ _ _ _ fun a => ?_).trans (h2 ⟨n / 9 % 2, hn2⟩ ⟨128 * (n % 9) + z1.val, by omega⟩)
      fin_cases a <;> simp [ix4]
    · rw [View.readAt_eq_ld, harg5.read_unread]
      refine (View.ld_unit_apply_of _ _ _ _ _ _ fun a => ?_).trans (h3 ⟨n / 9 % 2, hn2⟩ ⟨128 * (n % 9) + z1.val, by omega⟩)
      fin_cases a <;> simp [ix4]
    · have h0 : z0 = 0 := Subsingleton.elim _ _
      have h16 : z2.val % 16 = z2.val := Nat.mod_eq_of_lt z2.isLt
      subst h0
      simp [ix3, h16]
  · intro a
    fin_cases a <;> simp [ix3, S1x128x16] <;> omega
  · have h16 : k.val % 16 = k.val := Nat.mod_eq_of_lt k.isLt
    simp [ix3, h16]

theorem HO_at (i : Fin 16) (j : Fin 128) : View.canon (HO (F := Ideal)) (ix2 i j) = (1 : EReal) := by
  unfold HO
  rw [View.canon_cons_unit_lit (Val := Elt Ideal) inbO _ _ (by intro a; fin_cases a <;> rfl)]
  pointwise [oneP]

/-- What the case that sets up a batch entry leaves in the three buffers that the others read. -/
structure Scr (s0 : Vec Ideal S2x1152x16 .bf16) (s1 : Vec Ideal S2x1152x128 .f32) (s6 : Vec Ideal S16x128 .bf16) (G B : ℕ → ℕ → ℝ) : Prop where
  rows : ∀ (r : Fin 2) (d : Fin 1152) (k : Fin 16), s0 (ix3 r d k) = ((arR (B r.val d.val) (G r.val d.val) k : ℝ) : EReal)
  gain : ∀ (r : Fin 2) (d : Fin 1152) (j : Fin 128), s1 (ix3 r d j) = ((1 + G r.val d.val : ℝ) : EReal)
  one : ∀ (i : Fin 16) (j : Fin 128), s6 (ix2 i j) = 1

theorem scr_canon (arg4 : Memref sig .tc .vmem S2x1x1x1152 .f32) (harg4 : arg4.IsWhole) (arg5 : Memref sig .tc .vmem S2x1x1x1152 .f32) (harg5 : arg5.IsWhole)
    (x2 x3 : Vec Ideal S2x1x1x1152 .f32) (G B : ℕ → ℕ → ℝ)
    (h2 : ∀ (r : Fin 2) (d : Fin 1152), x2 (ix4 r 0 0 d) = ((G r.val d.val : ℝ) : EReal))
    (h3 : ∀ (r : Fin 2) (d : Fin 1152), x3 (ix4 r 0 0 d) = ((B r.val d.val : ℝ) : EReal)) :
    Scr (View.canon (HA arg4 harg4 arg5 harg5 x2 x3 18)) (View.canon (HG arg4 harg4 x2 18)) (View.canon HO) G B where
  rows := HA_at arg4 harg4 arg5 harg5 x2 x3 G B h2 h3
  gain r d j := by rw [HG_at, h2, ← EReal.coe_one, ← EReal.coe_add]
  one := HO_at

section
variable
  (arg3 : Memref sig .tc .vmem S2x1x256x1152 .bf16) (harg3 : arg3.IsWhole)
  (arg4 : Memref sig .tc .vmem S2x1x1x1152 .f32) (harg4 : arg4.IsWhole)
  (arg5 : Memref sig .tc .vmem S2x1x1x1152 .f32) (harg5 : arg5.IsWhole)
  (arg14 : Memref sig .tc .vmem S2x1152x16 .bf16) (harg14 : arg14.IsWhole)
  (arg15 : Memref sig .tc .vmem S2x1152x128 .f32) (harg15 : arg15.IsWhole)
  (arg16 : Memref sig .tc .vmem S2x2x1152x128 .bf16)
  (arg20 : Memref sig .tc .vmem S16x128 .bf16) (harg20 : arg20.IsWhole)
  (x1 : Vec Ideal S2x1x256x1152 .bf16) (x2 x3 : Vec Ideal S2x1x1x1152 .f32)
  (xs0 : Vec Ideal S2x1152x16 .bf16) (xs1 : Vec Ideal S2x1152x128 .f32) (xs6 : Vec Ideal S16x128 .bf16)
  (X : ℕ → ℕ → ℕ → ℝ) (G B : ℕ → ℕ → ℝ)
  (h1 : ∀ (r : Fin 2) (s : Fin 256) (d : Fin 1152), x1 (ix4 r 0 s d) = ((X r.val s.val d.val : ℝ) : EReal))
  (ht : ∀ r, Tame (G r) (B r))
include h1 ht

theorem given_A
    (h2 : ∀ (r : Fin 2) (d : Fin 1152), x2 (ix4 r 0 0 d) = ((G r.val d.val : ℝ) : EReal))
    (h3 : ∀ (r : Fin 2) (d : Fin 1152), x3 (ix4 r 0 0 d) = ((B r.val d.val : ℝ) : EReal)) (u : ℕ) (hu : u < 4) :
    Given (ldA arg3 harg3 arg4 harg4 arg5 harg5 arg14 arg15 arg16 arg20 x1 x2 x3) u (fun j d => X (u % 2) (128 * (u / 2 % 2) + j) d) (G (u % 2)) (B (u % 2)) := by
  have S := scr_canon arg4 harg4 arg5 harg5 x2 x3 G B h2 h3
  have := m2 u
  refine ⟨?_, ?_, ?_, ?_, ?_, ht _⟩
  · intro k hk i j
    refine (xkRd_at arg16 _ u k hk i j).trans ?_
    rw [HX_at _ _ _ _ hu, h1]
  · intro c hc i j
    refine (xcRd_at arg16 _ u c hc i j).trans ?_
    rw [HX_at _ _ _ _ hu, h1]
  · intro c hc i j
    refine (congrFun (View.readCov_eq_canon' _ _ _) _).trans ((congrArg _ ?_).trans (S.gain ⟨u % 2, m2 u⟩ ⟨128 * c + i.val, by omega⟩ j))
    funext a
    apply Fin.ext
    refine (Rect.idx_unit_val _ _ _ _ a).trans ?_
    fin_cases a <;> simp [ix3] <;> omega
  · intro c hc i k
    refine (congrFun (View.readCov_eq_canon' _ _ _) _).trans ((congrArg _ ?_).trans (S.rows ⟨u % 2, m2 u⟩ ⟨128 * c + i.val, by omega⟩ k))
    funext a
    apply Fin.ext
    refine (Rect.idx_unit_val _ _ _ _ a).trans ?_
    fin_cases a <;> simp [ix3] <;> omega
  · intro i j
    refine (congrFun (View.readCov_eq_canon' _ _ _) _).trans ((congrArg _ ?_).trans (S.one i j))
    funext a
    apply Fin.ext
    refine (Rect.idx_unit_val _ _ _ _ a).trans ?_
    fin_cases a <;> simp [ix2]

theorem given_B (S : Scr xs0 xs1 xs6 G B) (u : ℕ) (hu : u < 4) :
    Given (ldB arg3 harg3 arg14 harg14 arg15 harg15 arg16 arg20 harg20 x1 xs0 xs1 xs6) u (fun j d => X (u % 2) (128 * (u / 2 % 2) + j) d) (G (u % 2)) (B (u % 2)) := by
  have := m2 u
  refine ⟨?_, ?_, ?_, ?_, ?_, ht _⟩
  · intro k hk i j
    refine (xkRd_at arg16 _ u k hk i j).trans ?_
    rw [HX_at _ _ _ _ hu, h1]
  · intro c hc i j
    refine (xcRd_at arg16 _ u c hc i j).trans ?_
    rw [HX_at _ _ _ _ hu, h1]
  · intro c hc i j
    unfold ldB
    dsimp only
    rw [View.readAt_eq_ld, harg15.read_unread]
    refine (View.ld_unit_apply_of _ _ _ _ _ _ fun a => ?_).trans (S.gain ⟨u % 2, m2 u⟩ ⟨128 * c + i.val, by omega⟩ j)
    fin_cases a <;> simp [ix3] <;> omega
  · intro c hc i k
    unfold ldB
    dsimp only
    rw [View.readAt_eq_ld, harg14.read_unread]
    refine (View.ld_unit_apply_of _ _ _ _ _ _ fun a => ?_).trans (S.rows ⟨u % 2, m2 u⟩ ⟨128 * c + i.val, by omega⟩ k)
    fin_cases a <;> simp [ix3] <;> omega
  · intro i j
    unfold ldB
    dsimp only
    rw [View.readAt_eq_ld, harg20.read_unread]
    refine (View.ld_unit_apply_of _ _ _ _ _ _ fun a => ?_).trans (S.one i j)
    fin_cases a <;> simp [ix2]

end

end Cert.Hand
-- ==== Proof.Tile.lean ====
module

public import proofs.«01_k».proof.Proof.Given
public import proofs.«01_k».proof.Proof.Spec

@[expose] public section

set_option maxRecDepth 16384

noncomputable section

/-!
What the body leaves in the blocks of the four results, element by element.
-/

namespace Cert.Hand

open Idealize.ShloMosaic Idealize.ShloMosaic.TcCoe Idealize.SL.Sem
open Cert.KernelIdeal Cert.KernelIdeal.Gen

/-- The guided projection of token `s` of the tile, row `o`. -/
def vel (p : Pj Ideal) (X : ℕ → ℕ → ℕ → ℝ) (G B : ℕ → ℕ → ℝ) (s o : ℕ) : EReal :=
  guide p.gd
    (prj (fun d => p.w (ix2 ⟨o % 16, Nat.mod_lt _ (by decide)⟩ d)) (p.ws (ix2 ⟨o % 16, Nat.mod_lt _ (by decide)⟩ 0)) (p.bo (ix2 ⟨o % 16, Nat.mod_lt _ (by decide)⟩ 0)) (deq (X 0 s) (G 0) (B 0)))
    (prj (fun d => p.w (ix2 ⟨o % 16, Nat.mod_lt _ (by decide)⟩ d)) (p.ws (ix2 ⟨o % 16, Nat.mod_lt _ (by decide)⟩ 0)) (p.bo (ix2 ⟨o % 16, Nat.mod_lt _ (by decide)⟩ 0)) (deq (X 1 s) (G 1) (B 1)))

theorem yU_at (w : Vec Ideal S16x1152 .fp8e4m3) (ws bo : Vec Ideal S16x1 .f32) (xw : Vec Ideal S1x1x1152x128 .bf16) (o : Fin 16) (j : Fin 128) :
    yU w ws bo xw (ix2 o j) = (∑ d : Fin 1152, w (ix2 o d) * xw (ix4 0 0 d j)) * ws (ix2 o 0) + bo (ix2 o 0) := by
  pointwise [yU]

theorem half_at (pi : ℕ) (hp : pi < 2) (v : FVec Ideal S16x128 .f32) (i : Fin 8) (j : Fin 128) : half pi v (ix2 i j) = v (ix2 ⟨8 * pi + i.val, by omega⟩ j) := by
  obtain rfl | rfl : pi = 0 ∨ pi = 1 := by omega
  · pointwise [half]
  · pointwise [half]
theorem quart_at (gy : ℕ) (hp : gy < 2) (v : FVec Ideal S8x128 .f32) (i : Fin 4) (j : Fin 128) : quart gy v (ix2 i j) = v (ix2 ⟨4 * gy + i.val, by omega⟩ j) := by
  obtain rfl | rfl : gy = 0 ∨ gy = 1 := by omega
  · pointwise [quart]
  · pointwise [quart]

section
variable {l : Ld Ideal} {X : ℕ → ℕ → ℕ → ℝ} {G B : ℕ → ℕ → ℝ}
  (H : ∀ u < 4, Given l u (fun j d => X (u % 2) (128 * (u / 2 % 2) + j) d) (G (u % 2)) (B (u % 2)))
include H

theorem HQ_at (r : Fin 2) (s : Fin 256) (d : Fin 1152) :
    View.canon (HQ l 36) (ix4 r 0 s d) = ((rowQ (X r.val s.val) (G r.val) (B r.val) d.val : ℝ) : EReal) := by
  refine (canon_lst (S := S2x1x256x1152) _ _ _ _ (fun v => ((rowQ (X (v 0) (v 2)) (G (v 0)) (B (v 0)) (v 3) : ℝ) : EReal)) _ ?_ _
    (18 * (s.val / 128) + 9 * r.val + d.val / 128) (by omega) ?_).trans ?_
  · intro n hn x
    have h9 := m9 n
    change S1x1x128x128.Idx at x
    rename' x => z
    idx_vars z
    have e : shapeCast S1x1x128x128 (transpose S128x128 [1, 0] (qL l (n / 9) (n % 9)) transposes_S128x128_p1_0_S128x128) shapeCasts_S128x128_S1x1x128x128 (ix4 z0 z1 z2 z3)
        = qL l (n / 9) (n % 9) (ix2 z3 z2) := by pointwise
    refine e.trans ((q_eq (H (n / 9) (by omega)) (n % 9) h9 z3 z2).trans ?_)
    have h0 : z0 = 0 := Subsingleton.elim _ _
    have hh : n / 9 / 2 = n / 18 := by omega
    subst h0
    simp [ix4, hh]
  · intro a
    fin_cases a <;> simp [ix4, S1x1x128x128] <;> omega
  · simp [ix4]

theorem HC_at (r : Fin 2) (k : Fin 36) (s : Fin 256) :
    View.canon (HC l 36) (ix4 r 0 k s) = ((rowS (X r.val s.val) (G r.val) (B r.val) k.val : ℝ) : EReal) := by
  refine (canon_lst (S := S2x1x36x256) _ _ _ _ (fun v => ((rowS (X (v 0) (v 3)) (G (v 0)) (B (v 0)) (v 2) : ℝ) : EReal)) _ ?_ _
    (18 * (s.val / 128) + 9 * r.val + k.val / 4) (by omega) ?_).trans ?_
  · intro n hn x
    have h9 := m9 n
    change S1x1x4x128.Idx at x
    rename' x => z
    idx_vars z
    have e : shapeCast S1x1x4x128 (scT (F := Ideal) (eL l (n / 9) (n % 9))) shapeCasts_S4x128_S1x1x4x128 (ix4 z0 z1 z2 z3)
        = scT (F := Ideal) (eL l (n / 9) (n % 9)) (ix2 z2 z3) := by pointwise
    refine e.trans ((s_eq (H (n / 9) (by omega)) (n % 9) h9 z2 z3).trans ?_)
    have h0 : z0 = 0 := Subsingleton.elim _ _
    have hh : n / 9 / 2 = n / 18 := by omega
    subst h0
    simp [ix4, hh]
  · intro a
    fin_cases a <;> simp [ix4, S1x1x4x128] <;> omega
  · simp [ix4]

theorem HW_at (u : ℕ) (hu : u < 4) (d : Fin 1152) (j : Fin 128) :
    View.canon (HW l (9 * (u + 1))) (ix4 ⟨u % 2, m2 u⟩ ⟨u / 2 % 2, m2 _⟩ d j)
      = ((deq (X (u % 2) (128 * (u / 2 % 2) + j.val)) (G (u % 2)) (B (u % 2)) d.val : ℝ) : EReal) := by
  refine (canon_lst (S := S2x2x1152x128) _ _ _ _ (fun v => ((deq (X (v 0) (128 * v 1 + v 3)) (G (v 0)) (B (v 0)) (v 2) : ℝ) : EReal)) _ ?_ _
    (9 * u + d.val / 128) (by omega) ?_).trans ?_
  · intro n hn x
    have h9 := m9 n
    change S1x1x128x128.Idx at x
    rename' x => z
    idx_vars z
    have e : shapeCast S1x1x128x128 (shapeCast S128x128 (xwT (qL l (n / 9) (n % 9)) (eL l (n / 9) (n % 9))) shapeCasts_S128x128_S128x128) shapeCasts_S128x128_S1x1x128x128 (ix4 z0 z1 z2 z3)
        = xwT (qL l (n / 9) (n % 9)) (eL l (n / 9) (n % 9)) (ix2 z2 z3) := by pointwise
    refine e.trans ((xw_eq (H (n / 9) (by omega)) (n % 9) h9 z2 z3).trans ?_)
    have h0 : z0 = 0 := Subsingleton.elim _ _
    have h1 : z1 = 0 := Subsingleton.elim _ _
    have hh : n / 9 / 2 = n / 18 := by omega
    subst h0 h1
    simp [ix4, hh, deq]
  · intro a
    fin_cases a <;> simp [ix4, S1x1x128x128] <;> omega
  · simp [ix4]

variable (p : Pj Ideal) (arg19 : Memref sig .tc .vmem S2x2x1152x128 .bf16)

theorem yL_at (u : ℕ) (hu : u < 4) (o : Fin 16) (j : Fin 128) :
    yL l p arg19 u (ix2 o j) = prj (fun d => p.w (ix2 o d)) (p.ws (ix2 o 0)) (p.bo (ix2 o 0)) (deq (X (u % 2) (128 * (u / 2 % 2) + j.val)) (G (u % 2)) (B (u % 2))) := by
  unfold yL prj
  rw [yU_at]
  refine congrArg (fun t => t * p.ws (ix2 o 0) + p.bo (ix2 o 0)) (Finset.sum_congr rfl fun d _ => congrArg (p.w (ix2 o d) * ·) ?_)
  refine (congrFun (View.readCov_eq_canon' _ _ _) _).trans ((congrArg _ ?_).trans (HW_at H u hu d j))
  funext a
  apply Fin.ext
  refine (Rect.idx_unit_val _ _ _ _ a).trans ?_
  fin_cases a <;> simp [ix4]

theorem vL_at (lt : ℕ) (hl : lt < 2) (o : Fin 16) (j : Fin 128) : vL l p arg19 lt (ix2 o j) = vel p X G B (128 * lt + j.val) o.val := by
  have e : ∀ y0 y1 : FVec Ideal S16x128 .f32, vU p.gd y0 y1 (ix2 o j) = guide p.gd (y0 (ix2 o j)) (y1 (ix2 o j)) := by
    intro y0 y1
    pointwise [vU, guide]
  unfold vL
  rw [e, yL_at H p arg19 _ (by omega), yL_at H p arg19 _ (by omega)]
  have ho : (⟨o.val % 16, Nat.mod_lt _ (by decide)⟩ : Fin 16) = o := Fin.ext (Nat.mod_eq_of_lt o.isLt)
  have a0 : 2 * lt % 2 = 0 := by omega
  have a1 : (2 * lt + 1) % 2 = 1 := by omega
  have b0 : 2 * lt / 2 % 2 = lt := by omega
  have b1 : (2 * lt + 1) / 2 % 2 = lt := by omega
  rw [a0, a1, b0, b1]
  unfold vel
  rw [ho]

theorem imgL_at (lt pi gy : ℕ) (hl : lt < 2) (hp : pi < 2) (hg : gy < 2) (ch : Fin 4) (j : Fin 128) :
    imgL l p arg19 lt pi gy (ix2 ch j) = vel p X G B (128 * lt + 64 * gy + j.val / 2) (8 * pi + 4 * (j.val % 2) + ch.val) := by
  unfold imgL
  rw [quart_at _ hg, imgT_apply, half_at _ hp, vL_at H p arg19 lt hl]
  have hr : (4 * gy + ch.val) % 4 = ch.val := by omega
  have hd : (4 * gy + ch.val) / 4 = gy := by omega
  refine congrArg₂ (vel p X G B) ?_ ?_
  · simp only [imgCol, hd]; omega
  · simp only [imgRow, hr]; omega

theorem HV_at (ch : Fin 4) (i : Fin 8) (j : Fin 128) :
    View.canon (HV l p arg19 8) (ix4 0 ch i j) = vel p X G B (64 * (i.val / 2) + j.val / 2) (8 * (i.val % 2) + 4 * (j.val % 2) + ch.val) := by
  refine (canon_lst (S := S1x4x8x128) _ _ _ _ (fun v => vel p X G B (64 * (v 2 / 2) + v 3 / 2) (8 * (v 2 % 2) + 4 * (v 3 % 2) + v 1)) _ ?_ _
    (4 * (i.val / 4) + 2 * (i.val % 2) + i.val / 2 % 2) (by omega) ?_).trans ?_
  · intro n hn x
    change S1x4x1x128.Idx at x
    rename' x => z
    idx_vars z
    have e : shapeCast S1x4x1x128 (imgL l p arg19 (n / 4) (n / 2 % 2) (n % 2)) shapeCasts_S4x128_S1x4x1x128 (ix4 z0 z1 z2 z3)
        = imgL l p arg19 (n / 4) (n / 2 % 2) (n % 2) (ix2 z1 z3) := by pointwise
    refine e.trans ((imgL_at H p arg19 _ _ _ (by omega) (by omega) (by omega) z1 z3).trans ?_)
    have h0 : z2 = 0 := Subsingleton.elim _ _
    subst h0
    refine congrArg₂ (vel p X G B) ?_ ?_
    · simp [ix4]; omega
    · simp [ix4]; omega
  · intro a
    obtain ⟨i, hi⟩ := i
    interval_cases i <;> fin_cases a <;> simp [ix4, S1x4x1x128] <;> omega
  · simp [ix4]

theorem HL_at (lat : Vec Ideal S1x4x8x128 .f32)
    (hlat : ∀ a b c (ch : Fin 4) (j : Fin 128), p.lat a b c (ix4 0 ch 0 j) = lat (ix4 0 ch ⟨4 * (a % 2) + 2 * (c % 2) + b % 2, by omega⟩ j))
    (ch : Fin 4) (i : Fin 8) (j : Fin 128) :
    View.canon (HL l p arg19 8) (ix4 0 ch i j)
      = lat (ix4 0 ch i j) + p.dt * vel p X G B (64 * (i.val / 2) + j.val / 2) (8 * (i.val % 2) + 4 * (j.val % 2) + ch.val) := by
  refine (canon_lst (S := S1x4x8x128) _ _ _ _ (fun v => lat (ix4 0 ⟨v 1 % 4, Nat.mod_lt _ (by decide)⟩ ⟨v 2 % 8, Nat.mod_lt _ (by decide)⟩ ⟨v 3 % 128, Nat.mod_lt _ (by decide)⟩) + p.dt * vel p X G B (64 * (v 2 / 2) + v 3 / 2) (8 * (v 2 % 2) + 4 * (v 3 % 2) + v 1)) _ ?_ _
    (4 * (i.val / 4) + 2 * (i.val % 2) + i.val / 2 % 2) (by omega) ?_).trans ?_
  · intro n hn x
    change S1x4x1x128.Idx at x
    rename' x => z
    idx_vars z
    have e : ∀ (a : Vec Ideal S1x4x1x128 .f32) (b : FVec Ideal S4x128 .f32), shapeCast S1x4x1x128 (addf (shapeCast S4x128 a shapeCasts_S1x4x1x128_S4x128)
        (mulf (broadcast S4x128 p.dt) b)) shapeCasts_S4x128_S1x4x1x128 (ix4 z0 z1 z2 z3)
        = a (ix4 0 z1 0 z3) + p.dt * b (ix2 z1 z3) := by intro a b; pointwise
    refine (e _ _).trans ?_
    rw [imgL_at H p arg19 _ _ _ (by omega) (by omega) (by omega) z1 z3, hlat]
    have h0 : z2 = 0 := Subsingleton.elim _ _
    subst h0
    refine congrArg₂ (· + ·) (congrArg lat ?_) (congrArg (p.dt * ·) (congrArg₂ (vel p X G B) ?_ ?_))
    · funext a
      fin_cases a <;> apply Fin.ext <;> simp [ix4] <;> omega
    · simp [ix4]; omega
    · simp [ix4]; omega
  · intro a
    obtain ⟨i, hi⟩ := i
    interval_cases i <;> fin_cases a <;> simp [ix4, S1x4x1x128] <;> omega
  · refine congrArg₂ (· + ·) (congrArg lat ?_) rfl
    funext a
    fin_cases a <;> apply Fin.ext <;> simp [ix4] <;> omega

end

end Cert.Hand
-- ==== Proof.Entry.lean ====
module

public import proofs.«01_k».proof.Proof.Tile
public import proofs.«01_k».proof.Proof.Gen.KernelIdeal.Frame
public import Idealize.ShloMosaic.Lib.StableHlo.ReadAt
public import Idealize.ShloMosaic.Lib.Claim

@[expose] public section

set_option maxRecDepth 16384

noncomputable section

/-!
The arrays the launch starts from, and the blocks of them a point stages, element by element over the arguments.
-/

namespace Cert.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

theorem v0_at (r : Fin 2) (b : Fin 3) (s : Fin 3072) (d : Fin 1152) :
    V m c main_v0 (ix4 r b s d) = m ((c : Thread nD τ).loc main_arg0) (ix3 (⟨r.val * 3 + b.val, by omega⟩ : Fin 6) s d) := by
  unfold V V0
  simp only [hostOps0, List.flatten_cons, List.flatten_nil, List.append_nil]
  after_reads_at
  all_goals rfl

theorem v1_at (r : Fin 2) (b : Fin 3) (d : Fin 1152) :
    V m c main_v1 (ix4 r b 0 d) = m ((c : Thread nD τ).loc main_arg2) (ix2 (⟨r.val * 3 + b.val, by omega⟩ : Fin 6) d) := by
  unfold V V0
  simp only [hostOps0, List.flatten_cons, List.flatten_nil, List.append_nil]
  after_reads_at
  all_goals rfl

theorem v2_at (r : Fin 2) (b : Fin 3) (d : Fin 1152) :
    V m c main_v2 (ix4 r b 0 d) = m ((c : Thread nD τ).loc main_arg1) (ix2 (⟨r.val * 3 + b.val, by omega⟩ : Fin 6) d) := by
  unfold V V0
  simp only [hostOps0, List.flatten_cons, List.flatten_nil, List.append_nil]
  after_reads_at
  all_goals rfl

theorem v6_eq : V m c main_v6 = concatenate S3x3 0 [⟨S1x3, broadcastInDim S1x3 ![1] bcast_S3_S1x3_1 (m ((c : Thread nD τ).loc main_arg6))⟩,
    ⟨S1x3, broadcastInDim S1x3 ![1] bcast_S3_S1x3_1 (m ((c : Thread nD τ).loc main_arg7))⟩,
    ⟨S1x3, broadcastInDim S1x3 ![1] bcast_S3_S1x3_1 (m ((c : Thread nD τ).loc main_arg8))⟩] concatenates_S1x3_S1x3_S1x3_S3x3_d0 := by
  unfold V V0
  simp only [hostOps0, List.flatten_cons, List.flatten_nil, List.append_nil]
  after_results
  rfl
theorem v6_at0 (b : Fin 3) : V m c main_v6 (ix2 (0 : Fin 3) b) = m ((c : Thread nD τ).loc main_arg6) (ix1 b) := by
  rw [v6_eq]
  clean_types
  pointwise
theorem v6_at1 (b : Fin 3) : V m c main_v6 (ix2 (1 : Fin 3) b) = m ((c : Thread nD τ).loc main_arg7) (ix1 b) := by
  rw [v6_eq]
  clean_types
  pointwise
theorem v6_at2 (b : Fin 3) : V m c main_v6 (ix2 (2 : Fin 3) b) = m ((c : Thread nD τ).loc main_arg8) (ix1 b) := by
  rw [v6_eq]
  clean_types
  pointwise

theorem v7_at (o : Fin 16) (d : Fin 1152) : V m c main_v7 (ix2 o d) = m ((c : Thread nD τ).loc main_arg3) (ix2 d o) := by
  unfold V V0
  simp only [hostOps0, List.flatten_cons, List.flatten_nil, List.append_nil]
  after_reads_at
  all_goals rfl
theorem v8_at (o : Fin 16) : V m c main_v8 (ix2 o (0 : Fin 1)) = m ((c : Thread nD τ).loc main_arg4) (ix1 o) := by
  unfold V V0
  simp only [hostOps0, List.flatten_cons, List.flatten_nil, List.append_nil]
  after_reads_at
  all_goals rfl
theorem v9_at (o : Fin 16) : V m c main_v9 (ix2 o (0 : Fin 1)) = m ((c : Thread nD τ).loc main_arg5) (ix1 o) := by
  unfold V V0
  simp only [hostOps0, List.flatten_cons, List.flatten_nil, List.append_nil]
  after_reads_at
  all_goals rfl

/-! ## The blocks -/

theorem lt36 (t : Fin cfg0.N) : t.val < 36 := Nat.lt_of_lt_of_eq t.isLt N_0

theorem idx0 : ∀ t : Fin cfg0.N, win0_0.index t = ![0, 0] := (by decide +kernel : ∀ t : Fin grid0.N, _)
theorem idx1 : ∀ t : Fin cfg0.N, win0_1.index t = ![0, t.val / 12, t.val % 12, 0] := (by decide +kernel : ∀ t : Fin grid0.N, _)
theorem idx2 : ∀ t : Fin cfg0.N, win0_2.index t = ![0, t.val / 12, 0, 0] := (by decide +kernel : ∀ t : Fin grid0.N, _)
theorem idx3 : ∀ t : Fin cfg0.N, win0_3.index t = ![0, t.val / 12, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 12, 0, t.val % 12, 0] := (by decide +kernel : ∀ t : Fin grid0.N, _)
theorem idx8 : ∀ t : Fin cfg0.N, win0_8.index t = ![t.val / 12, 0, t.val % 12, 0] := (by decide +kernel : ∀ t : Fin grid0.N, _)
theorem idx9 : ∀ t : Fin cfg0.N, win0_9.index t = ![t.val / 12, 0, t.val % 12, 0] := (by decide +kernel : ∀ t : Fin grid0.N, _)
theorem idx10 : ∀ t : Fin cfg0.N, win0_10.index t = ![0, t.val / 12, t.val % 12, 0] := (by decide +kernel : ∀ t : Fin grid0.N, _)
theorem idx11 : ∀ t : Fin cfg0.N, win0_11.index t = ![0, t.val / 12, 0, t.val % 12] := (by decide +kernel : ∀ t : Fin grid0.N, _)

theorem blk1 (t : Fin cfg0.N) (r : Fin 2) (s : Fin 256) (d : Fin 1152) :
    iblk m c 1 t (ix4 r 0 s d) = m ((c : Thread nD τ).loc main_arg0)
      (ix3 (⟨r.val * 3 + t.val / 12, by have := lt36 t; omega⟩ : Fin 6) (⟨256 * (t.val % 12) + s.val, by omega⟩ : Fin 3072) d) := by
  have := lt36 t
  have e : iblk m c 1 t (ix4 r 0 s d) = V m c main_v0 (ix4 r (⟨t.val / 12, by omega⟩ : Fin 3) (⟨256 * (t.val % 12) + s.val, by omega⟩ : Fin 3072) d) := by
    blk_simp [iblk]
    refine congrArg (V m c main_v0) ?_
    blk_ext [idx1]
  exact e.trans (v0_at m c _ _ _ _)

theorem blk2 (t : Fin cfg0.N) (r : Fin 2) (d : Fin 1152) :
    iblk m c 2 t (ix4 r 0 0 d) = m ((c : Thread nD τ).loc main_arg2) (ix2 (⟨r.val * 3 + t.val / 12, by have := lt36 t; omega⟩ : Fin 6) d) := by
  have := lt36 t
  have e : iblk m c 2 t (ix4 r 0 0 d) = V m c main_v1 (ix4 r (⟨t.val / 12, by omega⟩ : Fin 3) (0 : Fin 1) d) := by
    blk_simp [iblk]
    refine congrArg (V m c main_v1) ?_
    blk_ext [idx2]
  exact e.trans (v1_at m c _ _ _)

theorem blk3 (t : Fin cfg0.N) (r : Fin 2) (d : Fin 1152) :
    iblk m c 3 t (ix4 r 0 0 d) = m ((c : Thread nD τ).loc main_arg1) (ix2 (⟨r.val * 3 + t.val / 12, by have := lt36 t; omega⟩ : Fin 6) d) := by
  have := lt36 t
  have e : iblk m c 3 t (ix4 r 0 0 d) = V m c main_v2 (ix4 r (⟨t.val / 12, by omega⟩ : Fin 3) (0 : Fin 1) d) := by
    blk_simp [iblk]
    refine congrArg (V m c main_v2) ?_
    blk_ext [idx3]
  exact e.trans (v2_at m c _ _ _)

theorem blk0 (t : Fin cfg0.N) (i j : Fin 3) : iblk m c 0 t (ix2 i j) = V m c main_v6 (ix2 i j) := by
  blk_simp [iblk]
  refine congrArg (V m c main_v6) ?_
  blk_ext [idx0]

theorem blk4 (t : Fin cfg0.N) (o : Fin 16) (d : Fin 1152) : iblk m c 4 t (ix2 o d) = m ((c : Thread nD τ).loc main_arg3) (ix2 d o) := by
  have e : iblk m c 4 t (ix2 o d) = V m c main_v7 (ix2 o d) := by
    blk_simp [iblk]
    refine congrArg (V m c main_v7) ?_
    blk_ext [idx4]
  exact e.trans (v7_at m c _ _)

theorem blk5 (t : Fin cfg0.N) (o : Fin 16) : iblk m c 5 t (ix2 o (0 : Fin 1)) = m ((c : Thread nD τ).loc main_arg4) (ix1 o) := by
  have e : iblk m c 5 t (ix2 o (0 : Fin 1)) = V m c main_v8 (ix2 o (0 : Fin 1)) := by
    blk_simp [iblk]
    refine congrArg (V m c main_v8) ?_
    blk_ext [idx5]
  exact e.trans (v8_at m c _)

theorem blk6 (t : Fin cfg0.N) (o : Fin 16) : iblk m c 6 t (ix2 o (0 : Fin 1)) = m ((c : Thread nD τ).loc main_arg5) (ix1 o) := by
  have e : iblk m c 6 t (ix2 o (0 : Fin 1)) = V m c main_v9 (ix2 o (0 : Fin 1)) := by
    blk_simp [iblk]
    refine congrArg (V m c main_v9) ?_
    blk_ext [idx6]
  exact e.trans (v9_at m c _)

theorem blk7 (t : Fin cfg0.N) (ch : Fin 4) (i : Fin 8) (j : Fin 128) :
    iblk m c 7 t (ix4 (0 : Fin 1) ch i j) = m ((c : Thread nD τ).loc main_arg9)
      (ix4 (⟨t.val / 12, by have := lt36 t; omega⟩ : Fin 3) ch (⟨8 * (t.val % 12) + i.val, by omega⟩ : Fin 96) j) := by
  have := lt36 t
  have e : iblk m c 7 t (ix4 (0 : Fin 1) ch i j) = V m c main_arg9 (ix4 (⟨t.val / 12, by omega⟩ : Fin 3) ch (⟨8 * (t.val % 12) + i.val, by omega⟩ : Fin 96) j) := by
    blk_simp [iblk]
    refine congrArg (V m c main_arg9) ?_
    blk_ext [idx7]
  exact e.trans (congrFun (V_main_arg9 m c) _)

end Cert.Hand
-- ==== Proof.RunAEq.lean ====
module

public import proofs.«01_k».proof.Proof.Loads

@[expose] public section

set_option maxRecDepth 16384

noncomputable section

/-!
The generated run's stores, in the case that sets a batch entry up, are the lists of Pieces.lean.
-/

namespace Cert.Hand

open Idealize.ShloMosaic Idealize.ShloMosaic.TcCoe Idealize.SL.Sem Idealize.ShloMosaic.Tactic
open Cert.KernelIdeal Cert.KernelIdeal.Gen

variable {F : FTy → Type} [FloatOps F] [Named F]
variable (c : Dev nD) (i : grid0.Coords)
  (arg2 : Memref sig .tc .smem S3x3 .f32) (harg2 : arg2.IsWhole)
  (arg3 : Memref sig .tc .vmem S2x1x256x1152 .bf16) (harg3 : arg3.IsWhole)
  (arg4 : Memref sig .tc .vmem S2x1x1x1152 .f32) (harg4 : arg4.IsWhole)
  (arg5 : Memref sig .tc .vmem S2x1x1x1152 .f32) (harg5 : arg5.IsWhole)
  (arg6 : Memref sig .tc .vmem S16x1152 .fp8e4m3) (harg6 : arg6.IsWhole)
  (arg7 : Memref sig .tc .vmem S16x1 .f32) (harg7 : arg7.IsWhole)
  (arg8 : Memref sig .tc .vmem S16x1 .f32) (harg8 : arg8.IsWhole)
  (arg9 : Memref sig .tc .vmem S1x4x8x128 .f32) (harg9 : arg9.IsWhole)
  (arg10 : Memref sig .tc .vmem S1x4x8x128 .f32) (harg10 : arg10.IsWhole)
  (arg11 : Memref sig .tc .vmem S1x4x8x128 .f32) (harg11 : arg11.IsWhole)
  (arg12 : Memref sig .tc .vmem S2x1x256x1152 .fp8e4m3) (harg12 : arg12.IsWhole)
  (arg13 : Memref sig .tc .vmem S2x1x36x256 .f32) (harg13 : arg13.IsWhole)
  (arg14 : Memref sig .tc .vmem S2x1152x16 .bf16) (harg14 : arg14.IsWhole)
  (arg15 : Memref sig .tc .vmem S2x1152x128 .f32) (harg15 : arg15.IsWhole)
  (arg16 : Memref sig .tc .vmem S2x2x1152x128 .bf16) (harg16 : arg16.IsWhole)
  (arg17 : Memref sig .tc .vmem S1152x128 .f32) (harg17 : arg17.IsWhole)
  (arg18 : Memref sig .tc .vmem S1152x128 .fp8e4m3) (harg18 : arg18.IsWhole)
  (arg19 : Memref sig .tc .vmem S2x2x1152x128 .bf16) (harg19 : arg19.IsWhole)
  (arg20 : Memref sig .tc .vmem S16x128 .bf16) (harg20 : arg20.IsWhole) (hc0 : cond0_0 i)
  (x0 : Vec F S3x3 .f32) (x1 : Vec F S2x1x256x1152 .bf16) (x2 : Vec F S2x1x1x1152 .f32) (x3 : Vec F S2x1x1x1152 .f32) (x4 : Vec F S16x1152 .fp8e4m3) (x5 : Vec F S16x1 .f32) (x6 : Vec F S16x1 .f32) (x7 : Vec F S1x4x8x128 .f32)

theorem runA_lat :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).1
      = HL (ldA arg3 harg3 arg4 harg4 arg5 harg5 arg14 arg15 arg16 arg20 x1 x2 x3) (pj i arg2 harg2 arg6 harg6 arg7 harg7 arg8 harg8 arg9 harg9 x0 x4 x5 x6 x7) arg19 8 := by
  sl_kernel_rfl

theorem runA_vel :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.1
      = HV (ldA arg3 harg3 arg4 harg4 arg5 harg5 arg14 arg15 arg16 arg20 x1 x2 x3) (pj i arg2 harg2 arg6 harg6 arg7 harg7 arg8 harg8 arg9 harg9 x0 x4 x5 x6 x7) arg19 8 := by
  sl_kernel_rfl

theorem runA_codes :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.1
      = HQ (ldA arg3 harg3 arg4 harg4 arg5 harg5 arg14 arg15 arg16 arg20 x1 x2 x3) 36 := by
  sl_kernel_rfl

theorem runA_scales :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.1
      = HC (ldA arg3 harg3 arg4 harg4 arg5 harg5 arg14 arg15 arg16 arg20 x1 x2 x3) 36 := by
  sl_kernel_rfl

theorem runA_terms :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.2.1
      = HA arg4 harg4 arg5 harg5 x2 x3 18 := by
  sl_kernel_rfl

theorem runA_gain :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.2.2.1
      = HG arg4 harg4 x2 18 := by
  sl_kernel_rfl

theorem runA_ones :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).2.2.2.2.2.2.1
      = HO := by
  sl_kernel_rfl

end Cert.Hand
-- ==== Proof.RunBEq.lean ====
module

public import proofs.«01_k».proof.Proof.Loads

@[expose] public section

set_option maxRecDepth 16384

noncomputable section

/-!
The generated run's stores, in the case that reads the setup the points before made, are the lists of Pieces.lean.
-/

namespace Cert.Hand

open Idealize.ShloMosaic Idealize.ShloMosaic.TcCoe Idealize.SL.Sem Idealize.ShloMosaic.Tactic
open Cert.KernelIdeal Cert.KernelIdeal.Gen

variable {F : FTy → Type} [FloatOps F] [Named F]
variable (c : Dev nD) (i : grid0.Coords)
  (arg2 : Memref sig .tc .smem S3x3 .f32) (harg2 : arg2.IsWhole)
  (arg3 : Memref sig .tc .vmem S2x1x256x1152 .bf16) (harg3 : arg3.IsWhole)
  (arg4 : Memref sig .tc .vmem S2x1x1x1152 .f32) (harg4 : arg4.IsWhole)
  (arg5 : Memref sig .tc .vmem S2x1x1x1152 .f32) (harg5 : arg5.IsWhole)
  (arg6 : Memref sig .tc .vmem S16x1152 .fp8e4m3) (harg6 : arg6.IsWhole)
  (arg7 : Memref sig .tc .vmem S16x1 .f32) (harg7 : arg7.IsWhole)
  (arg8 : Memref sig .tc .vmem S16x1 .f32) (harg8 : arg8.IsWhole)
  (arg9 : Memref sig .tc .vmem S1x4x8x128 .f32) (harg9 : arg9.IsWhole)
  (arg10 : Memref sig .tc .vmem S1x4x8x128 .f32) (harg10 : arg10.IsWhole)
  (arg11 : Memref sig .tc .vmem S1x4x8x128 .f32) (harg11 : arg11.IsWhole)
  (arg12 : Memref sig .tc .vmem S2x1x256x1152 .fp8e4m3) (harg12 : arg12.IsWhole)
  (arg13 : Memref sig .tc .vmem S2x1x36x256 .f32) (harg13 : arg13.IsWhole)
  (arg14 : Memref sig .tc .vmem S2x1152x16 .bf16) (harg14 : arg14.IsWhole)
  (arg15 : Memref sig .tc .vmem S2x1152x128 .f32) (harg15 : arg15.IsWhole)
  (arg16 : Memref sig .tc .vmem S2x2x1152x128 .bf16) (harg16 : arg16.IsWhole)
  (arg17 : Memref sig .tc .vmem S1152x128 .f32) (harg17 : arg17.IsWhole)
  (arg18 : Memref sig .tc .vmem S1152x128 .fp8e4m3) (harg18 : arg18.IsWhole)
  (arg19 : Memref sig .tc .vmem S2x2x1152x128 .bf16) (harg19 : arg19.IsWhole)
  (arg20 : Memref sig .tc .vmem S16x128 .bf16) (harg20 : arg20.IsWhole) (hc0 : ¬cond0_0 i)
  (x0 : Vec F S3x3 .f32) (x1 : Vec F S2x1x256x1152 .bf16) (x2 : Vec F S2x1x1x1152 .f32) (x3 : Vec F S2x1x1x1152 .f32) (x4 : Vec F S16x1152 .fp8e4m3) (x5 : Vec F S16x1 .f32) (x6 : Vec F S16x1 .f32) (x7 : Vec F S1x4x8x128 .f32)
  (xs0 : Vec F S2x1152x16 .bf16) (xs1 : Vec F S2x1152x128 .f32) (xs6 : Vec F S16x128 .bf16)

theorem runB_lat :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs6).1
      = HL (ldB arg3 harg3 arg14 harg14 arg15 harg15 arg16 arg20 harg20 x1 xs0 xs1 xs6) (pj i arg2 harg2 arg6 harg6 arg7 harg7 arg8 harg8 arg9 harg9 x0 x4 x5 x6 x7) arg19 8 := by
  sl_kernel_rfl

theorem runB_vel :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs6).2.1
      = HV (ldB arg3 harg3 arg14 harg14 arg15 harg15 arg16 arg20 harg20 x1 xs0 xs1 xs6) (pj i arg2 harg2 arg6 harg6 arg7 harg7 arg8 harg8 arg9 harg9 x0 x4 x5 x6 x7) arg19 8 := by
  sl_kernel_rfl

theorem runB_codes :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs6).2.2.1
      = HQ (ldB arg3 harg3 arg14 harg14 arg15 harg15 arg16 arg20 harg20 x1 xs0 xs1 xs6) 36 := by
  sl_kernel_rfl

theorem runB_scales :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs6).2.2.2.1
      = HC (ldB arg3 harg3 arg14 harg14 arg15 harg15 arg16 arg20 harg20 x1 xs0 xs1 xs6) 36 := by
  sl_kernel_rfl

end Cert.Hand
-- ==== Proof.Point.lean ====
module

public import proofs.«01_k».proof.Proof.Entry
public import proofs.«01_k».proof.Proof.RunAEq
public import proofs.«01_k».proof.Proof.RunBEq

@[expose] public section

set_option maxRecDepth 16384

noncomputable section

/-!
What each grid point leaves: the three carried buffers hold the batch entry's terms, and the four blocks the results.
-/

namespace Cert.Hand

open Idealize.ShloMosaic Idealize.ShloMosaic.TcCoe Idealize.SL.Sem
open Cert.KernelIdeal Cert.KernelIdeal.Gen

section
variable (c : Dev nD) (i : grid0.Coords)
  (arg2 : Memref sig .tc .smem S3x3 .f32) (harg2 : arg2.IsWhole)
  (arg3 : Memref sig .tc .vmem S2x1x256x1152 .bf16) (harg3 : arg3.IsWhole)
  (arg4 : Memref sig .tc .vmem S2x1x1x1152 .f32) (harg4 : arg4.IsWhole)
  (arg5 : Memref sig .tc .vmem S2x1x1x1152 .f32) (harg5 : arg5.IsWhole)
  (arg6 : Memref sig .tc .vmem S16x1152 .fp8e4m3) (harg6 : arg6.IsWhole)
  (arg7 : Memref sig .tc .vmem S16x1 .f32) (harg7 : arg7.IsWhole)
  (arg8 : Memref sig .tc .vmem S16x1 .f32) (harg8 : arg8.IsWhole)
  (arg9 : Memref sig .tc .vmem S1x4x8x128 .f32) (harg9 : arg9.IsWhole)
  (arg10 : Memref sig .tc .vmem S1x4x8x128 .f32) (harg10 : arg10.IsWhole)
  (arg11 : Memref sig .tc .vmem S1x4x8x128 .f32) (harg11 : arg11.IsWhole)
  (arg12 : Memref sig .tc .vmem S2x1x256x1152 .fp8e4m3) (harg12 : arg12.IsWhole)
  (arg13 : Memref sig .tc .vmem S2x1x36x256 .f32) (harg13 : arg13.IsWhole)
  (arg14 : Memref sig .tc .vmem S2x1152x16 .bf16) (harg14 : arg14.IsWhole)
  (arg15 : Memref sig .tc .vmem S2x1152x128 .f32) (harg15 : arg15.IsWhole)
  (arg16 : Memref sig .tc .vmem S2x2x1152x128 .bf16) (harg16 : arg16.IsWhole)
  (arg17 : Memref sig .tc .vmem S1152x128 .f32) (harg17 : arg17.IsWhole)
  (arg18 : Memref sig .tc .vmem S1152x128 .fp8e4m3) (harg18 : arg18.IsWhole)
  (arg19 : Memref sig .tc .vmem S2x2x1152x128 .bf16) (harg19 : arg19.IsWhole)
  (arg20 : Memref sig .tc .vmem S16x128 .bf16) (harg20 : arg20.IsWhole) (hc0 : cond0_0 i)
  (x0 : Vec Ideal S3x3 .f32) (x1 : Vec Ideal S2x1x256x1152 .bf16) (x2 : Vec Ideal S2x1x1x1152 .f32) (x3 : Vec Ideal S2x1x1x1152 .f32) (x4 : Vec Ideal S16x1152 .fp8e4m3) (x5 : Vec Ideal S16x1 .f32) (x6 : Vec Ideal S16x1 .f32) (x7 : Vec Ideal S1x4x8x128 .f32)

theorem soutA_terms : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = View.canon (HA arg4 harg4 arg5 harg5 x2 x3 18) := by
  unfold sout0_A_0
  rw [View.read_writes_junk_eq_canon, runA_terms]

theorem soutA_gain : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = View.canon (HG arg4 harg4 x2 18) := by
  unfold sout0_A_1
  rw [View.read_writes_junk_eq_canon, runA_gain]

theorem soutA_ones : sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = View.canon (HO) := by
  unfold sout0_A_6
  rw [View.read_writes_junk_eq_canon, runA_ones]

end

variable (m : (ℓ : Loc nD τ sig) → Buf (Elt Ideal) ℓ) (c : Dev nD)

/-- The kernel's arguments. -/
def argsK : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)

/-- The activations of point `t`'s tile, and its batch entry's gains and shifts. -/
def tX (t : ℕ) (r s d : ℕ) : ℝ := (argsK m c).X (r * 3 + t / 12) (256 * (t % 12) + s) d
def tG (t : ℕ) (r d : ℕ) : ℝ := (argsK m c).G (r * 3 + t / 12) d
def tB (t : ℕ) (r d : ℕ) : ℝ := (argsK m c).B (r * 3 + t / 12) d

/-- The projection's loads at point `t`. -/
def pjt (t : Fin cfg0.N) : Pj Ideal :=
  pj (grid0.coords t) (ms0_0 t) (hs0_0 t) (ms0_4 t) (hs0_4 t) (ms0_5 t) (hs0_5 t) (ms0_6 t) (hs0_6 t) (ms0_7 t) (hs0_7 t) (iblk m c 0 t) (iblk m c 4 t) (iblk m c 5 t) (iblk m c 6 t) (iblk m c 7 t)

variable {m c} (hA : (argsK m c).Ok)
include hA

theorem tile_x (t : Fin cfg0.N) (r : Fin 2) (s : Fin 256) (d : Fin 1152) : iblk m c 1 t (ix4 r 0 s d) = ((tX m c t.val r.val s.val d.val : ℝ) : EReal) := by
  have := lt36 t
  refine (blk1 m c t r s d).trans ((hA.x _).trans ?_)
  unfold tX Args.X
  refine congrArg (fun i => (((argsK m c).a0 i).toReal : EReal)) ?_
  funext a
  fin_cases a <;> apply Fin.ext <;> simp [ix3] <;> omega

theorem tile_g (t : Fin cfg0.N) (r : Fin 2) (d : Fin 1152) : iblk m c 2 t (ix4 r 0 0 d) = ((tG m c t.val r.val d.val : ℝ) : EReal) := by
  have := lt36 t
  refine (blk2 m c t r d).trans ((hA.g _).1.trans ?_)
  unfold tG Args.G
  refine congrArg (fun i => (((argsK m c).a2 i).toReal : EReal)) ?_
  funext a
  fin_cases a <;> apply Fin.ext <;> simp [ix2] <;> omega

theorem tile_b (t : Fin cfg0.N) (r : Fin 2) (d : Fin 1152) : iblk m c 3 t (ix4 r 0 0 d) = ((tB m c t.val r.val d.val : ℝ) : EReal) := by
  have := lt36 t
  refine (blk3 m c t r d).trans ((hA.b _).1.trans ?_)
  unfold tB Args.B
  refine congrArg (fun i => (((argsK m c).a1 i).toReal : EReal)) ?_
  funext a
  fin_cases a <;> apply Fin.ext <;> simp [ix2] <;> omega

theorem tame_t (t : ℕ) (r : ℕ) : Tame (tG m c t r) (tB m c t r) := hA.tame _

/-- The carried buffers. -/
theorem scr_at : ∀ (n : ℕ) (hn : n < cfg0.N),
    Scr (outsAt0 m c n hn).2.2.2.2.1 (outsAt0 m c n hn).2.2.2.2.2.1 (outsAt0 m c n hn).2.2.2.2.2.2 (tG m c n) (tB m c n) := by
  intro n
  induction n using Nat.strong_induction_on with
  | _ n ih =>
    intro hn
    by_cases h0 : n % 12 = 0
    · have e := outsAt0_A m c ⟨n, hn⟩ h0
      dsimp only at e
      rw [e]
      dsimp only
      rw [soutA_terms, soutA_gain, soutA_ones]
      exact scr_canon (ms0_2 ⟨n, hn⟩) (hs0_2 ⟨n, hn⟩) (ms0_3 ⟨n, hn⟩) (hs0_3 ⟨n, hn⟩) (iblk m c 2 ⟨n, hn⟩) (iblk m c 3 ⟨n, hn⟩) (tG m c n) (tB m c n)
        (tile_g hA ⟨n, hn⟩) (tile_b hA ⟨n, hn⟩)
    · have e := outsAt0_B m c ⟨n, hn⟩ h0
      dsimp only at e
      rw [e]
      dsimp only
      unfold sout0_B_0 sout0_B_1 sout0_B_6
      have := ih (n - 1) (by omega) (by omega)
      have hd : (n - 1) / 12 = n / 12 := by omega
      unfold tG tB at this ⊢
      rw [hd] at this
      exact this

/-- The four blocks of a point, over some loads of its units. -/
theorem outs_at (t : Fin cfg0.N) : ∃ (l : Ld Ideal) (a19 : Memref sig .tc .vmem S2x2x1152x128 .bf16),
    (∀ u < 4, Given l u (fun j d => tX m c t.val (u % 2) (128 * (u / 2 % 2) + j) d) (tG m c t.val (u % 2)) (tB m c t.val (u % 2)))
    ∧ (outsAt0 m c t.val t.isLt).1 = View.canon (HL l (pjt m c t) a19 8)
    ∧ (outsAt0 m c t.val t.isLt).2.1 = View.canon (HV l (pjt m c t) a19 8)
    ∧ (outsAt0 m c t.val t.isLt).2.2.1 = View.canon (HQ l 36)
    ∧ (outsAt0 m c t.val t.isLt).2.2.2.1 = View.canon (HC l 36) := by
  by_cases h0 : t.val % 12 = 0
  · refine ⟨ldA (ms0_1 t) (hs0_1 t) (ms0_2 t) (hs0_2 t) (ms0_3 t) (hs0_3 t) scM0_0 scM0_1 scM0_2 scM0_6 (iblk m c 1 t) (iblk m c 2 t) (iblk m c 3 t), scM0_5,
      fun u hu => given_A _ _ _ _ _ _ _ _ _ _ _ _ _ (tX m c t.val) (tG m c t.val) (tB m c t.val) (tile_x hA t) (tame_t hA t.val) (tile_g hA t) (tile_b hA t) u hu, ?_, ?_, ?_, ?_⟩
    all_goals rw [outsAt0_A m c t h0]; dsimp only
    · unfold out0_A_8
      rw [View.read_writes_junk_eq_canon, runA_lat]
      rfl
    · unfold out0_A_9
      rw [View.read_writes_junk_eq_canon, runA_vel]
      rfl
    · unfold out0_A_10
      rw [View.read_writes_junk_eq_canon, runA_codes]
    · unfold out0_A_11
      rw [View.read_writes_junk_eq_canon, runA_scales]
  · have S := scr_at hA (t.val - 1) (Nat.lt_of_le_of_lt (Nat.sub_le _ _) t.isLt)
    have hd : (t.val - 1) / 12 = t.val / 12 := by omega
    have eG : tG m c (t.val - 1) = tG m c t.val := by unfold tG; rw [hd]
    have eB : tB m c (t.val - 1) = tB m c t.val := by unfold tB; rw [hd]
    rw [eG, eB] at S
    refine ⟨ldB (ms0_1 t) (hs0_1 t) scM0_0 (Memref.isWhole_whole _) scM0_1 (Memref.isWhole_whole _) scM0_2 scM0_6 (Memref.isWhole_whole _) (iblk m c 1 t) _ _ _, scM0_5,
      fun u hu => given_B _ _ _ _ _ _ _ _ _ _ _ _ _ (tX m c t.val) (tG m c t.val) (tB m c t.val) (tile_x hA t) (tame_t hA t.val) S u hu, ?_, ?_, ?_, ?_⟩
    all_goals rw [outsAt0_B m c t h0]; dsimp only
    · unfold out0_B_8
      rw [View.read_writes_junk_eq_canon, runB_lat]
      rfl
    · unfold out0_B_9
      rw [View.read_writes_junk_eq_canon, runB_vel]
      rfl
    · unfold out0_B_10
      rw [View.read_writes_junk_eq_canon, runB_codes]
    · unfold out0_B_11
      rw [View.read_writes_junk_eq_canon, runB_scales]

end Cert.Hand
-- ==== Proof.PreOk.lean ====
module

public import proofs.«01_k».proof.Defs
public import proofs.«01_k».proof.Proof.Spec
public import proofs.«01_k».proof.Proof.Point
public import Idealize.ShloMosaic.Lib.ReduceAll

@[expose] public section

set_option maxRecDepth 16384

noncomputable section

/-!
The precondition read: the activations are real, and the shifts and the scales are within the largest finite value.
-/

namespace Cert.Hand

open Idealize.ShloMosaic Idealize.ShloMosaic.TcCoe Idealize.SL.Sem

/-- The side conditions of the precondition's operations. -/
theorem preFacts : Cert.Pre__finite.Facts := ⟨by decide, by decide, by decide, by decide, by decide, by decide⟩

theorem and_left {a b : BitVec 1} (h : IntOp.andi a b = 1#1) : a = 1#1 := by revert a b; decide
theorem and_right {a b : BitVec 1} (h : IntOp.andi a b = 1#1) : b = 1#1 := by revert a b; decide

/-- A magnitude below infinity is a real's. -/
theorem real_of_lt {x : EReal} (h : max x (-x) < ⊤) : x = (x.toReal : EReal) := by
  induction x with
  | bot => simp at h
  | top => simp at h
  | coe r => rfl

/-- A magnitude within a real is a real's, within it. -/
theorem real_of_le {x : EReal} {M : ℝ} (h : max x (-x) ≤ (M : EReal)) : x = (x.toReal : EReal) ∧ |x.toReal| ≤ M := by
  have hx := real_of_lt (x := x) (h.trans_lt (EReal.coe_lt_top M))
  refine ⟨hx, ?_⟩
  rw [hx, ← EReal.coe_neg, coe_max', EReal.coe_le_coe_iff] at h
  exact h

theorem cmp_lt {x y : EReal} (h : FloatOps.cmpf (F := Ideal) (φ := .f32) .olt x y = 1#1) : x < y := by
  by_contra hc
  have : FloatOps.cmpf (F := Ideal) (φ := .f32) .olt x y = 0#1 := by
    show BitVec.ofBool (decide (x < y)) = _
    rw [decide_eq_false hc]; rfl
  rw [this] at h
  exact absurd h (by decide)
theorem cmp_le {x y : EReal} (h : FloatOps.cmpf (F := Ideal) (φ := .f32) .ole x y = 1#1) : x ≤ y := by
  by_contra hc
  have : FloatOps.cmpf (F := Ideal) (φ := .f32) .ole x y = 0#1 := by
    show BitVec.ofBool (decide (x ≤ y)) = _
    rw [decide_eq_false hc]; rfl
  rw [this] at h
  exact absurd h (by decide)

theorem ok_of_pre (m : (ℓ : Loc Cert.KernelIdeal.nD Cert.KernelIdeal.τ Cert.KernelIdeal.sig) → Buf (Elt Ideal) ℓ)
    (h : Cert.Pre_KernelIdeal__finite (hPre__finite := preFacts) m) (c : Dev Cert.KernelIdeal.nD) : (argsK m c).Ok := by
  haveI := preFacts
  have h0 := congrFun (h c) (Shape.Idx.first (by decide))
  unfold Cert.Pre__finite.fn at h0
  have h12 := and_left h0
  have h3 := and_right h0
  have h1 := and_left h12
  have h2 := and_right h12
  refine ⟨fun i => ?_, fun i => ?_, fun i => ?_⟩
  · have := cmp_lt (Host.reduce_andi_all _ _ _ _ _ h1 i)
    refine real_of_lt ?_
    rw [← ctop]
    exact this
  · have := cmp_le (Host.reduce_andi_all _ _ _ _ _ h2 i)
    refine real_of_le ?_
    rw [← cbig]
    exact this
  · have := cmp_le (Host.reduce_andi_all _ _ _ _ _ h3 i)
    refine real_of_le ?_
    rw [← cbig]
    exact this

end Cert.Hand
-- ==== Proof.Stages.lean ====
module

public import proofs.«01_k».proof.Proof.Spec
public import proofs.«01_k».proof.Proof.Gen.ReferenceIdeal.Frame
public import Idealize.ShloMosaic.Lib.StableHlo.ReadAt
public import Idealize.ShloMosaic.Lib.Claim

@[expose] public section

set_option maxRecDepth 16384

noncomputable section

/-!
The reference's lines in stages, and the buffers each stage leaves alone.
-/

namespace Cert.Hand

open Idealize.ShloMosaic Idealize.ShloMosaic.TcCoe Idealize.SL.Sem
open Cert.ReferenceIdeal Cert.ReferenceIdeal.Gen

section
variable {F : FTy → Type} [FloatOps F]

/-- The modulated layer norm. -/
abbrev opsA : List (HloOp τ sig (Elt F)) :=
  [ StableHlo.unary main_arg0 main_v0 ((extf .f32 · bitsLt_bf16_f32) : (⟨S6x3072x1152, .bf16⟩ : BufTy).Contents (Elt F) → (⟨S6x3072x1152, .f32⟩ : BufTy).Contents (Elt F)),
    StableHlo.nullary main_cst (constant S_ .f32 0x00000000#32),
    StableHlo.binary main_v0 main_cst main_v1 ((fun x v => Host.reduceAdd x v reducesTo_S6x3072x1152_S6x3072_d2 h_S_) : (⟨S6x3072x1152, .f32⟩ : BufTy).Contents (Elt F) → (⟨S_, .f32⟩ : BufTy).Contents (Elt F) → (⟨S6x3072, .f32⟩ : BufTy).Contents (Elt F)),
    StableHlo.unary main_v1 main_v2 (broadcastInDim S6x3072x1 ![0, 1] bcast_S6x3072_S6x3072x1_0_1 : (⟨S6x3072, .f32⟩ : BufTy).Contents (Elt F) → (⟨S6x3072x1, .f32⟩ : BufTy).Contents (Elt F)),
    StableHlo.nullary main_cst_0 (constant S_ .f32 0x44900000#32),
    StableHlo.unary main_cst_0 main_v3 (broadcastInDim S6x3072x1 ![] bcast_S_S6x3072x1 : (⟨S_, .f32⟩ : BufTy).Contents (Elt F) → (⟨S6x3072x1, .f32⟩ : BufTy).Contents (Elt F)),
    StableHlo.binary main_v2 main_v3 main_v4 (Host.divf : (⟨S6x3072x1, .f32⟩ : BufTy).Contents (Elt F) → (⟨S6x3072x1, .f32⟩ : BufTy).Contents (Elt F) → (⟨S6x3072x1, .f32⟩ : BufTy).Contents (Elt F)),
    StableHlo.unary main_v4 main_v5 (broadcastInDim S6x3072x1152 ![0, 1, 2] bcast_S6x3072x1_S6x3072x1152_0_1_2 : (⟨S6x3072x1, .f32⟩ : BufTy).Contents (Elt F) → (⟨S6x3072x1152, .f32⟩ : BufTy).Contents (Elt F)),
    StableHlo.binary main_v0 main_v5 main_v6 (subf : (⟨S6x3072x1152, .f32⟩ : BufTy).Contents (Elt F) → (⟨S6x3072x1152, .f32⟩ : BufTy).Contents (Elt F) → (⟨S6x3072x1152, .f32⟩ : BufTy).Contents (Elt F)),
    StableHlo.binary main_v6 main_v6 main_v7 (mulf : (⟨S6x3072x1152, .f32⟩ : BufTy).Contents (Elt F) → (⟨S6x3072x1152, .f32⟩ : BufTy).Contents (Elt F) → (⟨S6x3072x1152, .f32⟩ : BufTy).Contents (Elt F)),
    StableHlo.nullary main_cst_1 (constant S_ .f32 0x00000000#32),
    StableHlo.binary main_v7 main_cst_1 main_v8 ((fun x v => Host.reduceAdd x v reducesTo_S6x3072x1152_S6x3072_d2 h_S_) : (⟨S6x3072x1152, .f32⟩ : BufTy).Contents (Elt F) → (⟨S_, .f32⟩ : BufTy).Contents (Elt F) → (⟨S6x3072, .f32⟩ : BufTy).Contents (Elt F)),
    StableHlo.unary main_v8 main_v9 (broadcastInDim S6x3072x1 ![0, 1] bcast_S6x3072_S6x3072x1_0_1 : (⟨S6x3072, .f32⟩ : BufTy).Contents (Elt F) → (⟨S6x3072x1, .f32⟩ : BufTy).Contents (Elt F)),
    StableHlo.nullary main_cst_2 (constant S_ .f32 0x44900000#32),
    StableHlo.unary main_cst_2 main_v10 (broadcastInDim S6x3072x1 ![] bcast_S_S6x3072x1 : (⟨S_, .f32⟩ : BufTy).Contents (Elt F) → (⟨S6x3072x1, .f32⟩ : BufTy).Contents (Elt F)),
    StableHlo.binary main_v9 main_v10 main_v11 (Host.divf : (⟨S6x3072x1, .f32⟩ : BufTy).Contents (Elt F) → (⟨S6x3072x1, .f32⟩ : BufTy).Contents (Elt F) → (⟨S6x3072x1, .f32⟩ : BufTy).Contents (Elt F)),
    StableHlo.nullary main_cst_3 (constant S_ .f32 0x358637BD#32),
    StableHlo.unary main_cst_3 main_v12 (broadcastInDim S6x3072x1 ![] bcast_S_S6x3072x1 : (⟨S_, .f32⟩ : BufTy).Contents (Elt F) → (⟨S6x3072x1, .f32⟩ : BufTy).Contents (Elt F)),
    StableHlo.binary main_v11 main_v12 main_v13 (addf : (⟨S6x3072x1, .f32⟩ : BufTy).Contents (Elt F) → (⟨S6x3072x1, .f32⟩ : BufTy).Contents (Elt F) → (⟨S6x3072x1, .f32⟩ : BufTy).Contents (Elt F)),
    StableHlo.unary main_v13 main_v14 (Host.rsqrt : (⟨S6x3072x1, .f32⟩ : BufTy).Contents (Elt F) → (⟨S6x3072x1, .f32⟩ : BufTy).Contents (Elt F)),
    StableHlo.unary main_v14 main_v15 (broadcastInDim S6x3072x1152 ![0, 1, 2] bcast_S6x3072x1_S6x3072x1152_0_1_2 : (⟨S6x3072x1, .f32⟩ : BufTy).Contents (Elt F) → (⟨S6x3072x1152, .f32⟩ : BufTy).Contents (Elt F)),
    StableHlo.binary main_v6 main_v15 main_v16 (mulf : (⟨S6x3072x1152, .f32⟩ : BufTy).Contents (Elt F) → (⟨S6x3072x1152, .f32⟩ : BufTy).Contents (Elt F) → (⟨S6x3072x1152, .f32⟩ : BufTy).Contents (Elt F)),
    StableHlo.unary main_arg2 main_v17 (broadcastInDim S6x1x1152 ![0, 2] bcast_S6x1152_S6x1x1152_0_2 : (⟨S6x1152, .f32⟩ : BufTy).Contents (Elt F) → (⟨S6x1x1152, .f32⟩ : BufTy).Contents (Elt F)),
    StableHlo.nullary main_cst_4 (constant S_ .f32 0x3F800000#32),
    StableHlo.unary main_cst_4 main_v18 (broadcastInDim S6x1x1152 ![] bcast_S_S6x1x1152 : (⟨S_, .f32⟩ : BufTy).Contents (Elt F) → (⟨S6x1x1152, .f32⟩ : BufTy).Contents (Elt F)),
    StableHlo.binary main_v18 main_v17 main_v19 (addf : (⟨S6x1x1152, .f32⟩ : BufTy).Contents (Elt F) → (⟨S6x1x1152, .f32⟩ : BufTy).Contents (Elt F) → (⟨S6x1x1152, .f32⟩ : BufTy).Contents (Elt F)),
    StableHlo.unary main_v19 main_v20 (broadcastInDim S6x3072x1152 ![0, 1, 2] bcast_S6x1x1152_S6x3072x1152_0_1_2 : (⟨S6x1x1152, .f32⟩ : BufTy).Contents (Elt F) → (⟨S6x3072x1152, .f32⟩ : BufTy).Contents (Elt F)),
    StableHlo.binary main_v16 main_v20 main_v21 (mulf : (⟨S6x3072x1152, .f32⟩ : BufTy).Contents (Elt F) → (⟨S6x3072x1152, .f32⟩ : BufTy).Contents (Elt F) → (⟨S6x3072x1152, .f32⟩ : BufTy).Contents (Elt F)),
    StableHlo.unary main_arg1 main_v22 (broadcastInDim S6x1x1152 ![0, 2] bcast_S6x1152_S6x1x1152_0_2 : (⟨S6x1152, .f32⟩ : BufTy).Contents (Elt F) → (⟨S6x1x1152, .f32⟩ : BufTy).Contents (Elt F)),
    StableHlo.unary main_v22 main_v23 (broadcastInDim S6x3072x1152 ![0, 1, 2] bcast_S6x1x1152_S6x3072x1152_0_1_2 : (⟨S6x1x1152, .f32⟩ : BufTy).Contents (Elt F) → (⟨S6x3072x1152, .f32⟩ : BufTy).Contents (Elt F)),
    StableHlo.binary main_v21 main_v23 main_v24 (addf : (⟨S6x3072x1152, .f32⟩ : BufTy).Contents (Elt F) → (⟨S6x3072x1152, .f32⟩ : BufTy).Contents (Elt F) → (⟨S6x3072x1152, .f32⟩ : BufTy).Contents (Elt F)) ]
/-- The blocks' largest magnitudes over the largest code. -/
abbrev opsB : List (HloOp τ sig (Elt F)) :=
  [ StableHlo.reshape main_v24 main_v25 (rfl : (.f32 : EltTy) = .f32) shapeCasts_S6x3072x1152_S6x3072x36x32,
    StableHlo.unary main_v25 main_v26 (Host.absf : (⟨S6x3072x36x32, .f32⟩ : BufTy).Contents (Elt F) → (⟨S6x3072x36x32, .f32⟩ : BufTy).Contents (Elt F)),
    StableHlo.nullary main_cst_5 (constant S_ .f32 0xFF800000#32),
    StableHlo.binary main_v26 main_cst_5 main_v27 ((fun x v => Host.reduce FloatOps.maximumf x v reducesTo_S6x3072x36x32_S6x3072x36_d3 h_S_) : (⟨S6x3072x36x32, .f32⟩ : BufTy).Contents (Elt F) → (⟨S_, .f32⟩ : BufTy).Contents (Elt F) → (⟨S6x3072x36, .f32⟩ : BufTy).Contents (Elt F)),
    StableHlo.nullary main_cst_6 (constant S_ .f32 0x3B124925#32),
    StableHlo.unary main_cst_6 main_v28 (broadcastInDim S6x3072x36 ![] bcast_S_S6x3072x36 : (⟨S_, .f32⟩ : BufTy).Contents (Elt F) → (⟨S6x3072x36, .f32⟩ : BufTy).Contents (Elt F)),
    StableHlo.binary main_v27 main_v28 main_v29 (mulf : (⟨S6x3072x36, .f32⟩ : BufTy).Contents (Elt F) → (⟨S6x3072x36, .f32⟩ : BufTy).Contents (Elt F) → (⟨S6x3072x36, .f32⟩ : BufTy).Contents (Elt F)) ]
/-- The exponents. -/
abbrev opsC : List (HloOp τ sig (Elt F)) :=
  [ StableHlo.unary main_v29 main_v30 (Host.log : (⟨S6x3072x36, .f32⟩ : BufTy).Contents (Elt F) → (⟨S6x3072x36, .f32⟩ : BufTy).Contents (Elt F)),
    StableHlo.nullary main_cst_7 (constant S_ .f32 0x40000000#32),
    StableHlo.unary main_cst_7 main_v31 (Host.log : (⟨S_, .f32⟩ : BufTy).Contents (Elt F) → (⟨S_, .f32⟩ : BufTy).Contents (Elt F)),
    StableHlo.unary main_v31 main_v32 (broadcastInDim S6x3072x36 ![] bcast_S_S6x3072x36 : (⟨S_, .f32⟩ : BufTy).Contents (Elt F) → (⟨S6x3072x36, .f32⟩ : BufTy).Contents (Elt F)),
    StableHlo.binary main_v30 main_v32 main_v33 (Host.divf : (⟨S6x3072x36, .f32⟩ : BufTy).Contents (Elt F) → (⟨S6x3072x36, .f32⟩ : BufTy).Contents (Elt F) → (⟨S6x3072x36, .f32⟩ : BufTy).Contents (Elt F)),
    StableHlo.unary main_v33 main_v34 (Host.floor : (⟨S6x3072x36, .f32⟩ : BufTy).Contents (Elt F) → (⟨S6x3072x36, .f32⟩ : BufTy).Contents (Elt F)),
    StableHlo.nullary main_cst_8 (constant S_ .f32 0x3F800000#32),
    StableHlo.unary main_cst_8 main_v35 (broadcastInDim S6x3072x36 ![] bcast_S_S6x3072x36 : (⟨S_, .f32⟩ : BufTy).Contents (Elt F) → (⟨S6x3072x36, .f32⟩ : BufTy).Contents (Elt F)),
    StableHlo.binary main_v34 main_v35 main_v36 (addf : (⟨S6x3072x36, .f32⟩ : BufTy).Contents (Elt F) → (⟨S6x3072x36, .f32⟩ : BufTy).Contents (Elt F) → (⟨S6x3072x36, .f32⟩ : BufTy).Contents (Elt F)),
    StableHlo.nullary main_cst_9 (constant S_ .f32 0x00800000#32),
    StableHlo.unary main_cst_9 main_v37 (broadcastInDim S6x3072x36 ![] bcast_S_S6x3072x36 : (⟨S_, .f32⟩ : BufTy).Contents (Elt F) → (⟨S6x3072x36, .f32⟩ : BufTy).Contents (Elt F)),
    StableHlo.binary main_v29 main_v37 main_v38 (cmpf .olt : (⟨S6x3072x36, .f32⟩ : BufTy).Contents (Elt F) → (⟨S6x3072x36, .f32⟩ : BufTy).Contents (Elt F) → (⟨S6x3072x36, .i1⟩ : BufTy).Contents (Elt F)),
    StableHlo.nullary main_cst_10 (constant S_ .f32 0x00000000#32),
    StableHlo.TRef.unary (.of main_cst_10 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S6x3072x36, .f32⟩) (broadcastInDim S6x3072x36 ![] bcast_S_S6x3072x36),
    StableHlo.TRef.ternary (.of main_v38 : StableHlo.TRef sig ⟨S6x3072x36, .i1⟩) (.of main_call0_v1 : StableHlo.TRef sig ⟨S6x3072x36, .f32⟩) (.of main_v36 : StableHlo.TRef sig ⟨S6x3072x36, .f32⟩) (.of main_v39 : StableHlo.TRef sig ⟨S6x3072x36, .f32⟩) select ]
/-- The scales and their inverses. -/
abbrev opsD : List (HloOp τ sig (Elt F)) :=
  [ StableHlo.nullary main_cst_11 (constant S_ .f32 0x40000000#32),
    StableHlo.unary main_cst_11 main_v40 (broadcastInDim S6x3072x36 ![] bcast_S_S6x3072x36 : (⟨S_, .f32⟩ : BufTy).Contents (Elt F) → (⟨S6x3072x36, .f32⟩ : BufTy).Contents (Elt F)),
    StableHlo.binary main_v40 main_v39 main_v41 (Host.powf : (⟨S6x3072x36, .f32⟩ : BufTy).Contents (Elt F) → (⟨S6x3072x36, .f32⟩ : BufTy).Contents (Elt F) → (⟨S6x3072x36, .f32⟩ : BufTy).Contents (Elt F)),
    StableHlo.unary main_v39 main_v42 (Host.negf : (⟨S6x3072x36, .f32⟩ : BufTy).Contents (Elt F) → (⟨S6x3072x36, .f32⟩ : BufTy).Contents (Elt F)),
    StableHlo.nullary main_cst_12 (constant S_ .f32 0x40000000#32),
    StableHlo.unary main_cst_12 main_v43 (broadcastInDim S6x3072x36 ![] bcast_S_S6x3072x36 : (⟨S_, .f32⟩ : BufTy).Contents (Elt F) → (⟨S6x3072x36, .f32⟩ : BufTy).Contents (Elt F)),
    StableHlo.binary main_v43 main_v42 main_v44 (Host.powf : (⟨S6x3072x36, .f32⟩ : BufTy).Contents (Elt F) → (⟨S6x3072x36, .f32⟩ : BufTy).Contents (Elt F) → (⟨S6x3072x36, .f32⟩ : BufTy).Contents (Elt F)) ]
/-- The scaled values, clipped. -/
abbrev opsE : List (HloOp τ sig (Elt F)) :=
  [ StableHlo.unary main_v44 main_v45 (broadcastInDim S6x3072x36x1 ![0, 1, 2] bcast_S6x3072x36_S6x3072x36x1_0_1_2 : (⟨S6x3072x36, .f32⟩ : BufTy).Contents (Elt F) → (⟨S6x3072x36x1, .f32⟩ : BufTy).Contents (Elt F)),
    StableHlo.unary main_v45 main_v46 (broadcastInDim S6x3072x36x32 ![0, 1, 2, 3] bcast_S6x3072x36x1_S6x3072x36x32_0_1_2_3 : (⟨S6x3072x36x1, .f32⟩ : BufTy).Contents (Elt F) → (⟨S6x3072x36x32, .f32⟩ : BufTy).Contents (Elt F)),
    StableHlo.binary main_v25 main_v46 main_v47 (mulf : (⟨S6x3072x36x32, .f32⟩ : BufTy).Contents (Elt F) → (⟨S6x3072x36x32, .f32⟩ : BufTy).Contents (Elt F) → (⟨S6x3072x36x32, .f32⟩ : BufTy).Contents (Elt F)),
    StableHlo.nullary main_cst_13 (constant S_ .f32 0xC3E00000#32),
    StableHlo.nullary main_cst_14 (constant S_ .f32 0x43E00000#32),
    StableHlo.TRef.unary (.of main_cst_13 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S6x3072x36x32, .f32⟩) (broadcastInDim S6x3072x36x32 ![] bcast_S_S6x3072x36x32),
    StableHlo.TRef.binary (.of main_call1_v1 : StableHlo.TRef sig ⟨S6x3072x36x32, .f32⟩) (.of main_v47 : StableHlo.TRef sig ⟨S6x3072x36x32, .f32⟩) (.of main_call1_v2 : StableHlo.TRef sig ⟨S6x3072x36x32, .f32⟩) maximumf,
    StableHlo.TRef.unary (.of main_cst_14 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S6x3072x36x32, .f32⟩) (broadcastInDim S6x3072x36x32 ![] bcast_S_S6x3072x36x32),
    StableHlo.TRef.binary (.of main_call1_v4 : StableHlo.TRef sig ⟨S6x3072x36x32, .f32⟩) (.of main_call1_v2 : StableHlo.TRef sig ⟨S6x3072x36x32, .f32⟩) (.of main_v48 : StableHlo.TRef sig ⟨S6x3072x36x32, .f32⟩) minimumf,
    StableHlo.reshape main_v48 main_v49 (rfl : (.f32 : EltTy) = .f32) shapeCasts_S6x3072x36x32_S6x3072x1152 ]
/-- The projection. -/
abbrev opsG : List (HloOp τ sig (Elt F)) :=
  [ StableHlo.reshape main_v50_1 main_v51 (rfl : (.bf16 : EltTy) = .bf16) shapeCasts_S6x3072x1152_S6x3072x36x32,
    StableHlo.unary main_v41 main_v52 ((truncf .bf16 · bitsLt_bf16_f32) : (⟨S6x3072x36, .f32⟩ : BufTy).Contents (Elt F) → (⟨S6x3072x36, .bf16⟩ : BufTy).Contents (Elt F)),
    StableHlo.unary main_v52 main_v53 (broadcastInDim S6x3072x36x1 ![0, 1, 2] bcast_S6x3072x36_S6x3072x36x1_0_1_2 : (⟨S6x3072x36, .bf16⟩ : BufTy).Contents (Elt F) → (⟨S6x3072x36x1, .bf16⟩ : BufTy).Contents (Elt F)),
    StableHlo.unary main_v53 main_v54 (broadcastInDim S6x3072x36x32 ![0, 1, 2, 3] bcast_S6x3072x36x1_S6x3072x36x32_0_1_2_3 : (⟨S6x3072x36x1, .bf16⟩ : BufTy).Contents (Elt F) → (⟨S6x3072x36x32, .bf16⟩ : BufTy).Contents (Elt F)),
    StableHlo.binary main_v51 main_v54 main_v55 (mulf : (⟨S6x3072x36x32, .bf16⟩ : BufTy).Contents (Elt F) → (⟨S6x3072x36x32, .bf16⟩ : BufTy).Contents (Elt F) → (⟨S6x3072x36x32, .bf16⟩ : BufTy).Contents (Elt F)),
    StableHlo.reshape main_v55 main_v56 (rfl : (.bf16 : EltTy) = .bf16) shapeCasts_S6x3072x36x32_S6x3072x1152,
    StableHlo.binary main_v56 main_v50_2 main_v57 ((fun l r => Host.dotGeneral dot_S6x3072x1152_S1152x16_S6x3072x16_2_0_01_1_n_n none l r) : (⟨S6x3072x1152, .bf16⟩ : BufTy).Contents (Elt F) → (⟨S1152x16, .bf16⟩ : BufTy).Contents (Elt F) → (⟨S6x3072x16, .f32⟩ : BufTy).Contents (Elt F)),
    StableHlo.unary main_arg4 main_v58 (broadcastInDim S1x1x16 ![2] bcast_S16_S1x1x16_2 : (⟨S16, .f32⟩ : BufTy).Contents (Elt F) → (⟨S1x1x16, .f32⟩ : BufTy).Contents (Elt F)),
    StableHlo.unary main_v58 main_v59 (broadcastInDim S6x3072x16 ![0, 1, 2] bcast_S1x1x16_S6x3072x16_0_1_2 : (⟨S1x1x16, .f32⟩ : BufTy).Contents (Elt F) → (⟨S6x3072x16, .f32⟩ : BufTy).Contents (Elt F)),
    StableHlo.binary main_v57 main_v59 main_v60 (mulf : (⟨S6x3072x16, .f32⟩ : BufTy).Contents (Elt F) → (⟨S6x3072x16, .f32⟩ : BufTy).Contents (Elt F) → (⟨S6x3072x16, .f32⟩ : BufTy).Contents (Elt F)),
    StableHlo.unary main_arg5 main_v61 (broadcastInDim S1x1x16 ![2] bcast_S16_S1x1x16_2 : (⟨S16, .f32⟩ : BufTy).Contents (Elt F) → (⟨S1x1x16, .f32⟩ : BufTy).Contents (Elt F)),
    StableHlo.unary main_v61 main_v62 (broadcastInDim S6x3072x16 ![0, 1, 2] bcast_S1x1x16_S6x3072x16_0_1_2 : (⟨S1x1x16, .f32⟩ : BufTy).Contents (Elt F) → (⟨S6x3072x16, .f32⟩ : BufTy).Contents (Elt F)),
    StableHlo.binary main_v60 main_v62 main_v63 (addf : (⟨S6x3072x16, .f32⟩ : BufTy).Contents (Elt F) → (⟨S6x3072x16, .f32⟩ : BufTy).Contents (Elt F) → (⟨S6x3072x16, .f32⟩ : BufTy).Contents (Elt F)) ]
/-- Guidance and the image. -/
abbrev opsH : List (HloOp τ sig (Elt F)) :=
  [ StableHlo.unary main_v63 main_v64 ((extractStridedSlice S3x3072x16 ![0, 0, 0] · slices_S6x3072x16_S3x3072x16_0_0_0) : (⟨S6x3072x16, .f32⟩ : BufTy).Contents (Elt F) → (⟨S3x3072x16, .f32⟩ : BufTy).Contents (Elt F)),
    StableHlo.unary main_v63 main_v65 ((extractStridedSlice S3x3072x16 ![3, 0, 0] · slices_S6x3072x16_S3x3072x16_3_0_0) : (⟨S6x3072x16, .f32⟩ : BufTy).Contents (Elt F) → (⟨S3x3072x16, .f32⟩ : BufTy).Contents (Elt F)),
    StableHlo.unary main_arg6 main_v66 (broadcastInDim S3x1x1 ![0] bcast_S3_S3x1x1_0 : (⟨S3, .f32⟩ : BufTy).Contents (Elt F) → (⟨S3x1x1, .f32⟩ : BufTy).Contents (Elt F)),
    StableHlo.binary main_v64 main_v65 main_v67 (subf : (⟨S3x3072x16, .f32⟩ : BufTy).Contents (Elt F) → (⟨S3x3072x16, .f32⟩ : BufTy).Contents (Elt F) → (⟨S3x3072x16, .f32⟩ : BufTy).Contents (Elt F)),
    StableHlo.unary main_v66 main_v68 (broadcastInDim S3x3072x16 ![0, 1, 2] bcast_S3x1x1_S3x3072x16_0_1_2 : (⟨S3x1x1, .f32⟩ : BufTy).Contents (Elt F) → (⟨S3x3072x16, .f32⟩ : BufTy).Contents (Elt F)),
    StableHlo.binary main_v68 main_v67 main_v69 (mulf : (⟨S3x3072x16, .f32⟩ : BufTy).Contents (Elt F) → (⟨S3x3072x16, .f32⟩ : BufTy).Contents (Elt F) → (⟨S3x3072x16, .f32⟩ : BufTy).Contents (Elt F)),
    StableHlo.binary main_v65 main_v69 main_v70 (addf : (⟨S3x3072x16, .f32⟩ : BufTy).Contents (Elt F) → (⟨S3x3072x16, .f32⟩ : BufTy).Contents (Elt F) → (⟨S3x3072x16, .f32⟩ : BufTy).Contents (Elt F)),
    StableHlo.reshape main_v70 main_v71 (rfl : (.f32 : EltTy) = .f32) shapeCasts_S3x3072x16_S3x48x64x2x2x4,
    StableHlo.unary main_v71 main_v72 ((transpose S3x4x48x2x64x2 [0, 5, 1, 3, 2, 4] · transposes_S3x48x64x2x2x4_S3x4x48x2x64x2_0_5_1_3_2_4) : (⟨S3x48x64x2x2x4, .f32⟩ : BufTy).Contents (Elt F) → (⟨S3x4x48x2x64x2, .f32⟩ : BufTy).Contents (Elt F)),
    StableHlo.reshape main_v72 main_v73 (rfl : (.f32 : EltTy) = .f32) shapeCasts_S3x4x48x2x64x2_S3x4x96x128 ]
/-- The results. -/
abbrev opsI : List (HloOp τ sig (Elt F)) :=
  [ StableHlo.binary main_arg8 main_arg7 main_v74 (subf : (⟨S3, .f32⟩ : BufTy).Contents (Elt F) → (⟨S3, .f32⟩ : BufTy).Contents (Elt F) → (⟨S3, .f32⟩ : BufTy).Contents (Elt F)),
    StableHlo.unary main_v74 main_v75 (broadcastInDim S3x1x1x1 ![0] bcast_S3_S3x1x1x1_0 : (⟨S3, .f32⟩ : BufTy).Contents (Elt F) → (⟨S3x1x1x1, .f32⟩ : BufTy).Contents (Elt F)),
    StableHlo.unary main_v75 main_v76 (broadcastInDim S3x4x96x128 ![0, 1, 2, 3] bcast_S3x1x1x1_S3x4x96x128_0_1_2_3 : (⟨S3x1x1x1, .f32⟩ : BufTy).Contents (Elt F) → (⟨S3x4x96x128, .f32⟩ : BufTy).Contents (Elt F)),
    StableHlo.binary main_v76 main_v73 main_v77 (mulf : (⟨S3x4x96x128, .f32⟩ : BufTy).Contents (Elt F) → (⟨S3x4x96x128, .f32⟩ : BufTy).Contents (Elt F) → (⟨S3x4x96x128, .f32⟩ : BufTy).Contents (Elt F)),
    StableHlo.binary main_arg9 main_v77 main_v78 (addf : (⟨S3x4x96x128, .f32⟩ : BufTy).Contents (Elt F) → (⟨S3x4x96x128, .f32⟩ : BufTy).Contents (Elt F) → (⟨S3x4x96x128, .f32⟩ : BufTy).Contents (Elt F)),
    StableHlo.unary main_v73 main_v79 ((truncf .bf16 · bitsLt_bf16_f32) : (⟨S3x4x96x128, .f32⟩ : BufTy).Contents (Elt F) → (⟨S3x4x96x128, .bf16⟩ : BufTy).Contents (Elt F)) ]

theorem ops_eq : (List.flatten [hostOps0, hostOps0_1, hostOps0_2, hostOps0_3, hostOps0_4] : List (HloOp τ sig (Elt F))) = opsA ++ (opsB ++ (opsC ++ (opsD ++ opsE))) := rfl
theorem tail_eq : (List.flatten [hostOps1] : List (HloOp τ sig (Elt F))) = opsG ++ (opsH ++ opsI) := rfl

end

theorem opsB_v24 (W : Valuation τ sig (Elt Ideal)) : StableHlo.after (opsB (F := Ideal)) W (Proc.devRef .tc main_v24) = W (Proc.devRef .tc main_v24) := by
  after_results
theorem opsC_v25 (W : Valuation τ sig (Elt Ideal)) : StableHlo.after (opsC (F := Ideal)) W (Proc.devRef .tc main_v25) = W (Proc.devRef .tc main_v25) := by
  after_results
theorem opsC_v29 (W : Valuation τ sig (Elt Ideal)) : StableHlo.after (opsC (F := Ideal)) W (Proc.devRef .tc main_v29) = W (Proc.devRef .tc main_v29) := by
  after_results
theorem opsD_v25 (W : Valuation τ sig (Elt Ideal)) : StableHlo.after (opsD (F := Ideal)) W (Proc.devRef .tc main_v25) = W (Proc.devRef .tc main_v25) := by
  after_results
theorem opsD_v39 (W : Valuation τ sig (Elt Ideal)) : StableHlo.after (opsD (F := Ideal)) W (Proc.devRef .tc main_v39) = W (Proc.devRef .tc main_v39) := by
  after_results
theorem opsE_v41 (W : Valuation τ sig (Elt Ideal)) : StableHlo.after (opsE (F := Ideal)) W (Proc.devRef .tc main_v41) = W (Proc.devRef .tc main_v41) := by
  after_results
theorem opsG_v41 (W : Valuation τ sig (Elt Ideal)) : StableHlo.after (opsG (F := Ideal)) W (Proc.devRef .tc main_v41) = W (Proc.devRef .tc main_v41) := by
  after_results
theorem opsG_v50_0 (W : Valuation τ sig (Elt Ideal)) : StableHlo.after (opsG (F := Ideal)) W (Proc.devRef .tc main_v50_0) = W (Proc.devRef .tc main_v50_0) := by
  after_results
theorem opsH_v41 (W : Valuation τ sig (Elt Ideal)) : StableHlo.after (opsH (F := Ideal)) W (Proc.devRef .tc main_v41) = W (Proc.devRef .tc main_v41) := by
  after_results
theorem opsH_v50_0 (W : Valuation τ sig (Elt Ideal)) : StableHlo.after (opsH (F := Ideal)) W (Proc.devRef .tc main_v50_0) = W (Proc.devRef .tc main_v50_0) := by
  after_results
theorem opsI_v41 (W : Valuation τ sig (Elt Ideal)) : StableHlo.after (opsI (F := Ideal)) W (Proc.devRef .tc main_v41) = W (Proc.devRef .tc main_v41) := by
  after_results
theorem opsI_v50_0 (W : Valuation τ sig (Elt Ideal)) : StableHlo.after (opsI (F := Ideal)) W (Proc.devRef .tc main_v50_0) = W (Proc.devRef .tc main_v50_0) := by
  after_results

end Cert.Hand
-- ==== Proof.Reads.lean ====
module

public import proofs.«01_k».proof.Proof.Stages
public import Idealize.ShloMosaic.Lib.KernelVsHost

@[expose] public section

set_option maxRecDepth 16384

noncomputable section

/-!
The lines of the reference, stage by stage, at an index.
-/

namespace Cert.Hand

open Idealize.ShloMosaic Idealize.ShloMosaic.TcCoe Idealize.SL.Sem
open Cert.ReferenceIdeal Cert.ReferenceIdeal.Gen

theorem red_at (v : Vec Ideal S6x3072x36x32 .f32) (R : Fin 6) (s : Fin 3072) (k : Fin 36) :
    Host.reduce FloatOps.maximumf v (constant S_ .f32 0xFF800000#32) reducesTo_S6x3072x36x32_S6x3072x36_d3 h_S_ (ix3 R s k) = Finset.fold max (Ideal.ofBits .f32 0xFF800000#32) (fun a : Fin 32 => v (ix4 R s k a)) Finset.univ := by
  clean_types
  pointwise

/-! ## What the lines do to numbers -/

/-- A token's mean, over the extended reals. -/
def eMean (f : Fin 1152 → EReal) : EReal := Ideal.div (∑ x, f x) (Ideal.ofBits .f32 0x44900000#32)
/-- A modulated value. -/
def eNorm (f : Fin 1152 → EReal) (d : Fin 1152) (g b : EReal) : EReal :=
  (f d - eMean f) * Ideal.rsqrt (eMean (fun x => (f x - eMean f) * (f x - eMean f)) + Ideal.ofBits .f32 0x358637BD#32) * (1 + g) + b
/-- A block's largest magnitude over the largest code. -/
def eTop (f : Fin 32 → EReal) : EReal :=
  Finset.fold max (Ideal.ofBits .f32 0xFF800000#32) (fun a : Fin 32 => FloatOps.absf (F := Ideal) (φ := .f32) (f a)) Finset.univ * Ideal.ofBits .f32 0x3B124925#32
/-- A block's exponent. -/
def eExp (y : EReal) : EReal :=
  if y < Ideal.ofBits .f32 0x00800000#32 then Ideal.ofBits .f32 0x00000000#32
  else Ideal.liftRound Int.floor (Ideal.div (Ideal.log y) (Ideal.log (Ideal.ofBits .f32 0x40000000#32))) + 1
/-- A power of two. -/
def eTwo (e : EReal) : EReal := Ideal.pow (Ideal.ofBits .f32 0x40000000#32) e
/-- A power of two, the exponent negated. -/
def eTwoNeg (e : EReal) : EReal := Ideal.pow (Ideal.ofBits .f32 0x40000000#32) (-e)
/-- A scaled value, clipped. -/
def eClip (h r : EReal) : EReal := min (Ideal.ofBits .f32 0x43E00000#32) (max (Ideal.ofBits .f32 0xC3E00000#32) (h * r))
/-- An output of the projection. -/
def eDot (q s w : Fin 1152 → EReal) (ws bo : EReal) : EReal := (∑ x, q x * s x * w x) * ws + bo
/-- A step of the integrator. -/
def eStep (x e s v : EReal) : EReal := x + (e - s) * v

/-! ## The lines -/

variable (W : Valuation τ sig (Elt Ideal))

theorem v24_of (R : Fin 6) (s : Fin 3072) (d : Fin 1152) :
    StableHlo.after (opsA (F := Ideal)) W (Proc.devRef .tc main_v24) (ix3 R s d)
      = eNorm (fun x => W (Proc.devRef .tc main_arg0) (ix3 R s x)) d (W (Proc.devRef .tc main_arg2) (ix2 R d)) (W (Proc.devRef .tc main_arg1) (ix2 R d)) := by
  after_reads_at
  rfl

theorem v25_of (R : Fin 6) (s : Fin 3072) (k : Fin 36) (a : Fin 32) :
    StableHlo.after (opsB (F := Ideal)) W (Proc.devRef .tc main_v25) (ix4 R s k a) = W (Proc.devRef .tc main_v24) (ix3 R s (⟨k.val * 32 + a.val, by omega⟩ : Fin 1152)) := by
  after_reads_at

theorem v29_vec :
    StableHlo.after (opsB (F := Ideal)) W (Proc.devRef .tc main_v29) = mulf (F := Ideal) (φ := .f32) (Host.reduce FloatOps.maximumf (Host.absf (F := Ideal) (φ := .f32) (shapeCast S6x3072x36x32 (W (Proc.devRef .tc main_v24) : Vec Ideal S6x3072x1152 .f32) shapeCasts_S6x3072x1152_S6x3072x36x32)) (constant S_ .f32 0xFF800000#32) reducesTo_S6x3072x36x32_S6x3072x36_d3 h_S_) (broadcastInDim S6x3072x36 ![] bcast_S_S6x3072x36 (constant S_ .f32 0x3B124925#32)) := by
  after_results
  rfl

theorem mul_at (u v : Vec Ideal S6x3072x36 .f32) (j : S6x3072x36.Idx) : mulf (F := Ideal) (φ := .f32) u v j = ((u j : EReal) * (v j : EReal) : EReal) := rfl
theorem bc_at (R : Fin 6) (s : Fin 3072) (k : Fin 36) :
    broadcastInDim S6x3072x36 ![] bcast_S_S6x3072x36 (constant (F := Ideal) S_ .f32 0x3B124925#32) (ix3 R s k) = Ideal.ofBits .f32 0x3B124925#32 := by
  pointwise
theorem abs_at (v : Vec Ideal S6x3072x1152 .f32) (R : Fin 6) (s : Fin 3072) (k : Fin 36) (a : Fin 32) :
    Host.absf (F := Ideal) (φ := .f32) (shapeCast S6x3072x36x32 v shapeCasts_S6x3072x1152_S6x3072x36x32) (ix4 R s k a)
      = FloatOps.absf (F := Ideal) (φ := .f32) (v (ix3 R s (⟨k.val * 32 + a.val, by omega⟩ : Fin 1152))) := by
  pointwise
theorem top_at (v : Vec Ideal S6x3072x1152 .f32) (R : Fin 6) (s : Fin 3072) (k : Fin 36) :
    mulf (F := Ideal) (φ := .f32) (Host.reduce FloatOps.maximumf (Host.absf (F := Ideal) (φ := .f32) (shapeCast S6x3072x36x32 v shapeCasts_S6x3072x1152_S6x3072x36x32)) (constant S_ .f32 0xFF800000#32) reducesTo_S6x3072x36x32_S6x3072x36_d3 h_S_) (broadcastInDim S6x3072x36 ![] bcast_S_S6x3072x36 (constant S_ .f32 0x3B124925#32)) (ix3 R s k)
      = eTop fun a => v (ix3 R s (⟨k.val * 32 + a.val, by omega⟩ : Fin 1152)) := by
  rw [mul_at, red_at, bc_at]
  simp only [abs_at]
  rfl
theorem v29_of (R : Fin 6) (s : Fin 3072) (k : Fin 36) :
    StableHlo.after (opsB (F := Ideal)) W (Proc.devRef .tc main_v29) (ix3 R s k)
      = eTop fun a => W (Proc.devRef .tc main_v24) (ix3 R s (⟨k.val * 32 + a.val, by omega⟩ : Fin 1152)) :=
  (congrFun (v29_vec W) (ix3 R s k : S6x3072x36.Idx)).trans (top_at _ R s k)

theorem v39_of (R : Fin 6) (s : Fin 3072) (k : Fin 36) :
    StableHlo.after (opsC (F := Ideal)) W (Proc.devRef .tc main_v39) (ix3 R s k) = eExp (W (Proc.devRef .tc main_v29) (ix3 R s k)) := by
  after_reads_at
  rfl

theorem v41_of (R : Fin 6) (s : Fin 3072) (k : Fin 36) :
    StableHlo.after (opsD (F := Ideal)) W (Proc.devRef .tc main_v41) (ix3 R s k) = eTwo (W (Proc.devRef .tc main_v39) (ix3 R s k)) := by
  after_reads_at
  rfl

theorem v44_of (R : Fin 6) (s : Fin 3072) (k : Fin 36) :
    StableHlo.after (opsD (F := Ideal)) W (Proc.devRef .tc main_v44) (ix3 R s k) = eTwoNeg (W (Proc.devRef .tc main_v39) (ix3 R s k)) := by
  after_reads_at
  rfl

theorem v49_of (R : Fin 6) (s : Fin 3072) (d : Fin 1152) :
    StableHlo.after (opsE (F := Ideal)) W (Proc.devRef .tc main_v49) (ix3 R s d)
      = eClip (W (Proc.devRef .tc main_v25) (ix4 R s (⟨d.val / 32, by omega⟩ : Fin 36) (⟨d.val % 32, by omega⟩ : Fin 32)))
          (W (Proc.devRef .tc main_v44) (ix3 R s (⟨d.val / 32, by omega⟩ : Fin 36))) := by
  after_reads_at
  rfl

theorem v63_of (R : Fin 6) (s : Fin 3072) (o : Fin 16) :
    StableHlo.after (opsG (F := Ideal)) W (Proc.devRef .tc main_v63) (ix3 R s o)
      = eDot (fun x => W (Proc.devRef .tc main_v50_1) (ix3 R s (⟨x.val / 32 * 32 + x.val % 32, by omega⟩ : Fin 1152)))
          (fun x => W (Proc.devRef .tc main_v41) (ix3 R s (⟨x.val / 32, by omega⟩ : Fin 36))) (fun x => W (Proc.devRef .tc main_v50_2) (ix2 x o))
          (W (Proc.devRef .tc main_arg4) (ix1 o)) (W (Proc.devRef .tc main_arg5) (ix1 o)) := by
  after_reads_at
  rfl

theorem v73_of (b : Fin 3) (ch : Fin 4) (y : Fin 96) (x : Fin 128) :
    StableHlo.after (opsH (F := Ideal)) W (Proc.devRef .tc main_v73) (ix4 b ch y x)
      = guide (W (Proc.devRef .tc main_arg6) (ix1 b))
          (W (Proc.devRef .tc main_v63) (ix3 (⟨b.val, by omega⟩ : Fin 6) (⟨y.val / 2 * 64 + x.val / 2, by omega⟩ : Fin 3072) (⟨y.val % 2 * 8 + x.val % 2 * 4 + ch.val, by omega⟩ : Fin 16)))
          (W (Proc.devRef .tc main_v63) (ix3 (⟨3 + b.val, by omega⟩ : Fin 6) (⟨y.val / 2 * 64 + x.val / 2, by omega⟩ : Fin 3072) (⟨y.val % 2 * 8 + x.val % 2 * 4 + ch.val, by omega⟩ : Fin 16))) := by
  after_reads_at
  rfl

theorem v78_of (b : Fin 3) (ch : Fin 4) (y : Fin 96) (x : Fin 128) :
    StableHlo.after (opsI (F := Ideal)) W (Proc.devRef .tc main_v78) (ix4 b ch y x)
      = eStep (W (Proc.devRef .tc main_arg9) (ix4 b ch y x)) (W (Proc.devRef .tc main_arg8) (ix1 b)) (W (Proc.devRef .tc main_arg7) (ix1 b)) (W (Proc.devRef .tc main_v73) (ix4 b ch y x)) := by
  after_reads_at
  rfl

theorem v79_of (b : Fin 3) (ch : Fin 4) (y : Fin 96) (x : Fin 128) :
    StableHlo.after (opsI (F := Ideal)) W (Proc.devRef .tc main_v79) (ix4 b ch y x) = W (Proc.devRef .tc main_v73) (ix4 b ch y x) := by
  after_reads_at
  all_goals rfl

end Cert.Hand
-- ==== Proof.Scalars.lean ====
module

public import proofs.«01_k».proof.Proof.Reads

@[expose] public section

noncomputable section

/-!
The numbers of the reference's lines where the arguments are real: the mathematics of a row.
-/

namespace Cert.Hand

open Idealize.ShloMosaic

theorem eMean_real (f : Fin 1152 → ℝ) : eMean (fun x => ((f x : ℝ) : EReal)) = ((mean f : ℝ) : EReal) := by
  unfold eMean
  rw [c1152, coe_sum]
  show Ideal.div ((_ : ℝ) : EReal) ((1152 : ℝ) : EReal) = _
  rw [Ideal.div_coe (by norm_num), ← EReal.coe_mul, one_div]
  rfl

theorem eNorm_real (f g b : Fin 1152 → ℝ) (d : Fin 1152) :
    eNorm (fun x => ((f x : ℝ) : EReal)) d ((g d : ℝ) : EReal) ((b d : ℝ) : EReal) = ((modu eps f g b d : ℝ) : EReal) := by
  unfold eNorm
  simp only [eMean_real, ← EReal.coe_sub, ← EReal.coe_mul]
  rw [ceps, ← EReal.coe_add]
  have hv : mean (fun x => (f x - mean f) * (f x - mean f)) = vari f := rfl
  rw [hv, ideal_rsqrt (by have := vari_nonneg f; have := eps_pos; linarith), ← EReal.coe_one]
  simp only [← EReal.coe_add, ← EReal.coe_mul]
  rfl

theorem eTop_real (f : Fin 32 → ℝ) : eTop (fun a => ((f a : ℝ) : EReal)) = ((amax f * k448 : ℝ) : EReal) := by
  unfold eTop
  simp only [absf_coe, cbot]
  rw [fold_abs f, ck448, EReal.coe_mul]

theorem eExp_real (y : ℝ) : eExp (y : EReal) = refExp (y : EReal) := by
  unfold eExp refExp
  rw [ctwo, Ideal.ofBits_zero_f32]

theorem eTwo_real (y : ℝ) : eTwo (eExp (y : EReal)) = ((scaleOf y : ℝ) : EReal) := by
  unfold eTwo
  rw [eExp_real, ctwo, ref_scale]

theorem eTwoNeg_real (y : ℝ) : eTwoNeg (eExp (y : EReal)) = (((scaleOf y)⁻¹ : ℝ) : EReal) := by
  unfold eTwoNeg
  rw [eExp_real, ctwo, ref_inv]

theorem eClip_real (h r : ℝ) : eClip (h : EReal) (r : EReal) = ((min 448 (max (-448) (h * r)) : ℝ) : EReal) := by
  unfold eClip
  rw [c448, cm448, ← EReal.coe_mul, coe_max', coe_min']

theorem eDot_real (q s : Fin 1152 → ℝ) (a : ℕ → ℝ) (w : Fin 1152 → EReal) (ws bo : EReal) (h : ∀ x : Fin 1152, q x * s x = a x.val) :
    eDot (fun x => ((q x : ℝ) : EReal)) (fun x => ((s x : ℝ) : EReal)) w ws bo = prj w ws bo a := by
  unfold eDot prj
  have : ∀ x : Fin 1152, ((q x : ℝ) : EReal) * ((s x : ℝ) : EReal) * w x = w x * ((a x.val : ℝ) : EReal) := fun x => by
    rw [← EReal.coe_mul, h, mul_comm]
  simp only [this]

/-! ## A row -/

variable (x g b : ℕ → ℝ)

theorem row_h (d : Fin 1152) :
    eNorm (fun j : Fin 1152 => ((x j.val : ℝ) : EReal)) d ((g d.val : ℝ) : EReal) ((b d.val : ℝ) : EReal) = ((rowH x g b d.val : ℝ) : EReal) := by
  have := eNorm_real (fn x) (fn g) (fn b) d
  refine this.trans ?_
  unfold rowH
  have e : (⟨d.val % 1152, Nat.mod_lt _ (by decide)⟩ : Fin 1152) = d := Fin.ext (Nat.mod_eq_of_lt d.isLt)
  rw [e]

theorem row_y (k : ℕ) : eTop (fun a : Fin 32 => ((rowH x g b (k * 32 + a.val) : ℝ) : EReal)) = ((rowY x g b k : ℝ) : EReal) := by
  rw [eTop_real (fun a : Fin 32 => rowH x g b (k * 32 + a.val))]
  unfold rowY
  rw [Nat.mul_comm]

theorem row_q (d : ℕ) :
    eClip ((rowH x g b (d / 32 * 32 + d % 32) : ℝ) : EReal) (((rowS x g b (d / 32))⁻¹ : ℝ) : EReal) = ((rowQ x g b d : ℝ) : EReal) := by
  have e : d / 32 * 32 + d % 32 = d := by omega
  rw [eClip_real, e]
  rfl

end Cert.Hand
-- ==== Proof.RefHead.lean ====
module

public import proofs.«01_k».proof.Proof.Scalars

@[expose] public section

set_option maxRecDepth 16384

noncomputable section

/-!
The reference's codes and scales, before its casts.
-/

namespace Cert.Hand

open Idealize.ShloMosaic Idealize.ShloMosaic.TcCoe Idealize.SL.Sem
open Cert.ReferenceIdeal Cert.ReferenceIdeal.Gen

theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons o l ih => exact ih _

variable (m : (ℓ : Loc nD τ sig) → Buf (Elt Ideal) ℓ) (c : Dev nD)

/-- The reference's argument arrays. -/
def argsR : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)

/-- What the buffers hold after each stage. -/
def WA : Valuation τ sig (Elt Ideal) := StableHlo.after (opsA (F := Ideal)) (fun b => m (c, b))
def WB : Valuation τ sig (Elt Ideal) := StableHlo.after (opsB (F := Ideal)) (WA m c)
def WC : Valuation τ sig (Elt Ideal) := StableHlo.after (opsC (F := Ideal)) (WB m c)
def WD : Valuation τ sig (Elt Ideal) := StableHlo.after (opsD (F := Ideal)) (WC m c)
def WE : Valuation τ sig (Elt Ideal) := StableHlo.after (opsE (F := Ideal)) (WD m c)

theorem V0_eq : V0 m c = WE m c := by
  unfold WE WD WC WB WA
  rw [← after_app, ← after_app, ← after_app, ← after_app]
  unfold V0
  rw [ops_eq]

section
variable {A : Args} (hA : A.Ok)
include hA
theorem x_real (R : Fin 6) (s : Fin 3072) (d : Fin 1152) : A.a0 (ix3 R s d) = ((A.X R.val s.val d.val : ℝ) : EReal) := by
  refine (hA.x _).trans ?_
  unfold Args.X
  simp only [Nat.mod_eq_of_lt R.isLt, Nat.mod_eq_of_lt s.isLt, Nat.mod_eq_of_lt d.isLt, Fin.eta]
theorem b_real (R : Fin 6) (d : Fin 1152) : A.a1 (ix2 R d) = ((A.B R.val d.val : ℝ) : EReal) := by
  refine (hA.b _).1.trans ?_
  unfold Args.B
  simp only [Nat.mod_eq_of_lt R.isLt, Nat.mod_eq_of_lt d.isLt, Fin.eta]
theorem g_real (R : Fin 6) (d : Fin 1152) : A.a2 (ix2 R d) = ((A.G R.val d.val : ℝ) : EReal) := by
  refine (hA.g _).1.trans ?_
  unfold Args.G
  simp only [Nat.mod_eq_of_lt R.isLt, Nat.mod_eq_of_lt d.isLt, Fin.eta]
end

variable {m c} (hA : (argsR m c).Ok)
include hA

theorem wa24 (R : Fin 6) (s : Fin 3072) (d : Fin 1152) :
    WA m c (Proc.devRef .tc main_v24) (ix3 R s d) = ((rowH ((argsR m c).X R s) ((argsR m c).G R) ((argsR m c).B R) d.val : ℝ) : EReal) := by
  refine (v24_of _ R s d).trans ?_
  have e0 : (fun x : Fin 1152 => (argsR m c).a0 (ix3 R s x)) = fun x : Fin 1152 => (((argsR m c).X R.val s.val x.val : ℝ) : EReal) := funext (x_real hA R s)
  show eNorm (fun x : Fin 1152 => (argsR m c).a0 (ix3 R s x)) d ((argsR m c).a2 (ix2 R d)) ((argsR m c).a1 (ix2 R d)) = _
  rw [e0, g_real hA, b_real hA]
  exact row_h _ _ _ d

theorem wb25 (R : Fin 6) (s : Fin 3072) (k : Fin 36) (a : Fin 32) :
    WB m c (Proc.devRef .tc main_v25) (ix4 R s k a) = ((rowH ((argsR m c).X R s) ((argsR m c).G R) ((argsR m c).B R) (k.val * 32 + a.val) : ℝ) : EReal) :=
  (v25_of _ R s k a).trans (wa24 hA R s _)

theorem wb29 (R : Fin 6) (s : Fin 3072) (k : Fin 36) :
    WB m c (Proc.devRef .tc main_v29) (ix3 R s k) = ((rowY ((argsR m c).X R s) ((argsR m c).G R) ((argsR m c).B R) k.val : ℝ) : EReal) := by
  refine (v29_of _ R s k).trans ?_
  refine Eq.trans (congrArg eTop ?_) (row_y _ _ _ k.val)
  funext a
  exact wa24 hA R s _

theorem wc39 (R : Fin 6) (s : Fin 3072) (k : Fin 36) :
    WC m c (Proc.devRef .tc main_v39) (ix3 R s k) = eExp ((rowY ((argsR m c).X R s) ((argsR m c).G R) ((argsR m c).B R) k.val : ℝ) : EReal) :=
  (v39_of _ R s k).trans (congrArg eExp (wb29 hA R s k))

theorem wc25 (R : Fin 6) (s : Fin 3072) (k : Fin 36) (a : Fin 32) :
    WC m c (Proc.devRef .tc main_v25) (ix4 R s k a) = ((rowH ((argsR m c).X R s) ((argsR m c).G R) ((argsR m c).B R) (k.val * 32 + a.val) : ℝ) : EReal) :=
  (congrFun (opsC_v25 (WB m c)) (ix4 R s k a : S6x3072x36x32.Idx)).trans (wb25 hA R s k a)

theorem wd25 (R : Fin 6) (s : Fin 3072) (k : Fin 36) (a : Fin 32) :
    WD m c (Proc.devRef .tc main_v25) (ix4 R s k a) = ((rowH ((argsR m c).X R s) ((argsR m c).G R) ((argsR m c).B R) (k.val * 32 + a.val) : ℝ) : EReal) :=
  (congrFun (opsD_v25 (WC m c)) (ix4 R s k a : S6x3072x36x32.Idx)).trans (wc25 hA R s k a)

theorem wd41 (R : Fin 6) (s : Fin 3072) (k : Fin 36) :
    WD m c (Proc.devRef .tc main_v41) (ix3 R s k) = ((rowS ((argsR m c).X R s) ((argsR m c).G R) ((argsR m c).B R) k.val : ℝ) : EReal) :=
  ((v41_of _ R s k).trans (congrArg eTwo (wc39 hA R s k))).trans (eTwo_real _)

theorem wd44 (R : Fin 6) (s : Fin 3072) (k : Fin 36) :
    WD m c (Proc.devRef .tc main_v44) (ix3 R s k) = (((rowS ((argsR m c).X R s) ((argsR m c).G R) ((argsR m c).B R) k.val)⁻¹ : ℝ) : EReal) :=
  ((v44_of _ R s k).trans (congrArg eTwoNeg (wc39 hA R s k))).trans (eTwoNeg_real _)

/-- The codes. -/
theorem we49 (R : Fin 6) (s : Fin 3072) (d : Fin 1152) :
    WE m c (Proc.devRef .tc main_v49) (ix3 R s d) = (argsR m c).code R.val s.val d.val :=
  ((v49_of _ R s d).trans (congrArg₂ eClip (wd25 hA R s _ _) (wd44 hA R s _))).trans (row_q _ _ _ d.val)

/-- The scales. -/
theorem we41 (R : Fin 6) (s : Fin 3072) (k : Fin 36) :
    WE m c (Proc.devRef .tc main_v41) (ix3 R s k) = (argsR m c).scale R.val s.val k.val :=
  (congrFun (opsE_v41 (WD m c)) (ix3 R s k : S6x3072x36.Idx)).trans (wd41 hA R s k)

end Cert.Hand
-- ==== Proof.RefArr.lean ====
module

public import proofs.«01_k».proof.Proof.RefHead
public import Idealize.ShloMosaic.Lib.Pipeline.ValueKit

@[expose] public section

set_option maxRecDepth 16384

noncomputable section

/-!
The arrays the reference's casts end with.
-/

namespace Cert.Hand

open Idealize.ShloMosaic Idealize.ShloMosaic.TcCoe Idealize.SL.Sem
open Cert.ReferenceIdeal Cert.ReferenceIdeal.Gen

theorem ridx0 : ∀ t : Fin cfg0.N, win0_0.index t = ![0, 0, 0] := (by decide +kernel : ∀ t : Fin grid0.N, _)
theorem ridx1 : ∀ t : Fin cfg0.N, win0_1.index t = ![0, 0] := (by decide +kernel : ∀ t : Fin grid0.N, _)
theorem ridx2 : ∀ t : Fin cfg0.N, win0_2.index t = ![0, 0, 0] := (by decide +kernel : ∀ t : Fin grid0.N, _)
theorem ridx3 : ∀ t : Fin cfg0.N, win0_3.index t = ![0, 0, 0] := (by decide +kernel : ∀ t : Fin grid0.N, _)
theorem ridx4 : ∀ t : Fin cfg0.N, win0_4.index t = ![0, 0] := (by decide +kernel : ∀ t : Fin grid0.N, _)

variable (m : (ℓ : Loc nD τ sig) → Buf (Elt Ideal) ℓ) (c : Dev nD)

/-- The codes and the weights as the casts find them. -/
def codeV (i : S6x3072x1152.Idx) : EReal := V m c main_v49 i
def weightV (i : S1152x16.Idx) : EReal := V m c main_arg3 i

theorem rblk0 (t : Fin cfg0.N) (R : Fin 6) (s : Fin 3072) (d : Fin 1152) : iblk m c 0 t (ix3 R s d) = codeV m c (ix3 R s d) := by
  blk_simp [iblk]
  refine congrArg (V m c main_v49) ?_
  blk_ext [ridx0]
theorem rblk1 (t : Fin cfg0.N) (d : Fin 1152) (o : Fin 16) : iblk m c 1 t (ix2 d o) = weightV m c (ix2 d o) := by
  blk_simp [iblk]
  refine congrArg (V m c main_arg3) ?_
  blk_ext [ridx1]

theorem out2_at (x0 : Vec Ideal S6x3072x1152 .f32) (x1 : Vec Ideal S1152x16 .fp8e4m3) (R : Fin 6) (s : Fin 3072) (d : Fin 1152) :
    out0_2 x0 x1 (ix3 R s d) = x0 (ix3 R s d) := by
  unfold out0_2
  rw [View.canon_cons_unit_lit (Val := Elt Ideal) inb_S6x3072x1152_S6x3072x1152_0_0_0 _ _ (by intro a; fin_cases a <;> rfl)]
  refine (View.ld_unit_apply_of x0 _ _ _ _ (ix3 R s d : S6x3072x1152.Idx) fun a => ?_)
  fin_cases a <;> simp [ix3]
theorem out3_at (x0 : Vec Ideal S6x3072x1152 .f32) (x1 : Vec Ideal S1152x16 .fp8e4m3) (R : Fin 6) (s : Fin 3072) (d : Fin 1152) :
    out0_3 x0 x1 (ix3 R s d) = x0 (ix3 R s d) := by
  unfold out0_3
  rw [View.canon_cons_unit_lit (Val := Elt Ideal) inb_S6x3072x1152_S6x3072x1152_0_0_0 _ _ (by intro a; fin_cases a <;> rfl)]
  refine (View.ld_unit_apply_of x0 _ _ _ _ (ix3 R s d : S6x3072x1152.Idx) fun a => ?_)
  fin_cases a <;> simp [ix3]
theorem out4_at (x0 : Vec Ideal S6x3072x1152 .f32) (x1 : Vec Ideal S1152x16 .fp8e4m3) (d : Fin 1152) (o : Fin 16) :
    out0_4 x0 x1 (ix2 d o) = x1 (ix2 d o) := by
  unfold out0_4
  rw [View.canon_cons_unit_lit (Val := Elt Ideal) inb_S1152x16_S1152x16_0_0 _ _ (by intro a; fin_cases a <;> rfl)]
  refine (View.ld_unit_apply_of x1 _ _ _ _ (ix2 d o : S1152x16.Idx) fun a => ?_)
  fin_cases a <;> simp [ix2]

theorem rfinal2 : (dats m 0 c).arrAt 2 cfg0.N = codeV m c := by
  refine (dats m 0 c).arrAt_eq_of_covers 2 _ (by decide +kernel) fun t hf y => ?_
  blk_simp
  rw [after0_2]
  change S6x3072x1152.Idx at y
  rename' y => z
  idx_vars z
  have e : (((cfg0.win 2).blk t).view.emb (ix3 z0 z1 z2 : S6x3072x1152.Idx) : S6x3072x1152.Idx) = ix3 z0 z1 z2 := by
    blk_ext [ridx2]
  refine Eq.trans ?_ (congrArg (codeV m c) e.symm)
  exact (out2_at _ _ z0 z1 z2).trans (rblk0 m c t z0 z1 z2)

theorem rfinal3 : (dats m 0 c).arrAt 3 cfg0.N = codeV m c := by
  refine (dats m 0 c).arrAt_eq_of_covers 3 _ (by decide +kernel) fun t hf y => ?_
  blk_simp
  rw [after0_3]
  change S6x3072x1152.Idx at y
  rename' y => z
  idx_vars z
  have e : (((cfg0.win 3).blk t).view.emb (ix3 z0 z1 z2 : S6x3072x1152.Idx) : S6x3072x1152.Idx) = ix3 z0 z1 z2 := by
    blk_ext [ridx3]
  refine Eq.trans ?_ (congrArg (codeV m c) e.symm)
  exact (out3_at _ _ z0 z1 z2).trans (rblk0 m c t z0 z1 z2)

theorem rfinal4 : (dats m 0 c).arrAt 4 cfg0.N = weightV m c := by
  refine (dats m 0 c).arrAt_eq_of_covers 4 _ (by decide +kernel) fun t hf y => ?_
  blk_simp
  rw [after0_4]
  change S1152x16.Idx at y
  rename' y => z
  idx_vars z
  have e : (((cfg0.win 4).blk t).view.emb (ix2 z0 z1 : S1152x16.Idx) : S1152x16.Idx) = ix2 z0 z1 := by
    blk_ext [ridx4]
  refine Eq.trans ?_ (congrArg (weightV m c) e.symm)
  exact (out4_at _ _ z0 z1).trans (rblk1 m c t z0 z1)

end Cert.Hand
-- ==== Proof.RefTail.lean ====
module

public import proofs.«01_k».proof.Proof.RefHead

@[expose] public section

set_option maxRecDepth 16384

noncomputable section

/-!
The reference's lines after its casts, over what they read.
-/

namespace Cert.Hand

open Idealize.ShloMosaic Idealize.ShloMosaic.TcCoe Idealize.SL.Sem
open Cert.ReferenceIdeal Cert.ReferenceIdeal.Gen

section
variable (W : Valuation τ sig (Elt Ideal))
theorem opsG_arg6 : StableHlo.after (opsG (F := Ideal)) W (Proc.devRef .tc main_arg6) = W (Proc.devRef .tc main_arg6) := by
  after_results
theorem opsG_arg7 : StableHlo.after (opsG (F := Ideal)) W (Proc.devRef .tc main_arg7) = W (Proc.devRef .tc main_arg7) := by
  after_results
theorem opsG_arg8 : StableHlo.after (opsG (F := Ideal)) W (Proc.devRef .tc main_arg8) = W (Proc.devRef .tc main_arg8) := by
  after_results
theorem opsG_arg9 : StableHlo.after (opsG (F := Ideal)) W (Proc.devRef .tc main_arg9) = W (Proc.devRef .tc main_arg9) := by
  after_results
theorem opsH_arg7 : StableHlo.after (opsH (F := Ideal)) W (Proc.devRef .tc main_arg7) = W (Proc.devRef .tc main_arg7) := by
  after_results
theorem opsH_arg8 : StableHlo.after (opsH (F := Ideal)) W (Proc.devRef .tc main_arg8) = W (Proc.devRef .tc main_arg8) := by
  after_results
theorem opsH_arg9 : StableHlo.after (opsH (F := Ideal)) W (Proc.devRef .tc main_arg9) = W (Proc.devRef .tc main_arg9) := by
  after_results
end

/-- What the lines after the casts find, over the arguments `A`. -/
structure Found (W : Valuation τ sig (Elt Ideal)) (A : Args) : Prop where
  q : ∀ (R : Fin 6) (s : Fin 3072) (d : Fin 1152), W (Proc.devRef .tc main_v50_1) (ix3 R s d) = A.code R.val s.val d.val
  s : ∀ (R : Fin 6) (s : Fin 3072) (k : Fin 36), W (Proc.devRef .tc main_v41) (ix3 R s k) = A.scale R.val s.val k.val
  w : ∀ (d : Fin 1152) (o : Fin 16), W (Proc.devRef .tc main_v50_2) (ix2 d o) = A.a3 (ix2 d o)
  a4 : W (Proc.devRef .tc main_arg4) = A.a4
  a5 : W (Proc.devRef .tc main_arg5) = A.a5
  a6 : W (Proc.devRef .tc main_arg6) = A.a6
  a7 : W (Proc.devRef .tc main_arg7) = A.a7
  a8 : W (Proc.devRef .tc main_arg8) = A.a8
  a9 : W (Proc.devRef .tc main_arg9) = A.a9

variable {W : Valuation τ sig (Elt Ideal)} {A : Args} (H : Found W A)
include H

theorem wg63 (R : Fin 6) (s : Fin 3072) (o : Fin 16) :
    StableHlo.after (opsG (F := Ideal)) W (Proc.devRef .tc main_v63) (ix3 R s o) = A.proj R.val s.val o.val := by
  refine (v63_of W R s o).trans ?_
  have e1 : (fun x : Fin 1152 => W (Proc.devRef .tc main_v50_1) (ix3 R s (⟨x.val / 32 * 32 + x.val % 32, by omega⟩ : Fin 1152)))
      = fun x : Fin 1152 => ((rowQ (A.X R s) (A.G R) (A.B R) x.val : ℝ) : EReal) := by
    funext x
    refine (H.q R s _).trans ?_
    have : x.val / 32 * 32 + x.val % 32 = x.val := by omega
    show A.code R.val s.val (x.val / 32 * 32 + x.val % 32) = _
    rw [this]
    rfl
  have e2 : (fun x : Fin 1152 => W (Proc.devRef .tc main_v41) (ix3 R s (⟨x.val / 32, by omega⟩ : Fin 36)))
      = fun x : Fin 1152 => ((rowS (A.X R s) (A.G R) (A.B R) (x.val / 32) : ℝ) : EReal) := funext fun x => H.s R s _
  have e3 : (fun x : Fin 1152 => W (Proc.devRef .tc main_v50_2) (ix2 x o)) = fun x : Fin 1152 => A.a3 (ix2 x o) := funext fun x => H.w x o
  have e4 : W (Proc.devRef .tc main_arg4) (ix1 o) = A.a4 (ix1 o) := congrFun H.a4 _
  have e5 : W (Proc.devRef .tc main_arg5) (ix1 o) = A.a5 (ix1 o) := congrFun H.a5 _
  rw [e1, e2, e3, e4, e5]
  refine (eDot_real _ _ (deq (A.X R s) (A.G R) (A.B R)) _ _ _ fun x => rfl).trans ?_
  have eo : (⟨o.val % 16, Nat.mod_lt _ (by decide)⟩ : Fin 16) = o := Fin.ext (Nat.mod_eq_of_lt o.isLt)
  unfold Args.proj
  rw [eo]

/-- An image. -/
theorem wh73 (b : Fin 3) (ch : Fin 4) (y : Fin 96) (x : Fin 128) :
    StableHlo.after (opsH (F := Ideal)) (StableHlo.after (opsG (F := Ideal)) W) (Proc.devRef .tc main_v73) (ix4 b ch y x) = A.img b.val ch.val y.val x.val := by
  refine (v73_of _ b ch y x).trans ?_
  have e6 : StableHlo.after (opsG (F := Ideal)) W (Proc.devRef .tc main_arg6) (ix1 b) = A.a6 (ix1 b) := congrFun ((opsG_arg6 W).trans H.a6) _
  rw [e6, wg63 H, wg63 H]
  have eb : (⟨b.val % 3, Nat.mod_lt _ (by decide)⟩ : Fin 3) = b := Fin.ext (Nat.mod_eq_of_lt b.isLt)
  unfold Args.img Args.velo
  rw [eb]
  have h1 : y.val / 2 * 64 + x.val / 2 = 64 * (y.val / 2) + x.val / 2 := by omega
  have h2 : y.val % 2 * 8 + x.val % 2 * 4 + ch.val = 8 * (y.val % 2) + 4 * (x.val % 2) + ch.val := by omega
  have h3 : 0 * 3 + b.val = b.val := by omega
  have h4 : 1 * 3 + b.val = 3 + b.val := by omega
  show guide _ (A.proj b.val (y.val / 2 * 64 + x.val / 2) (y.val % 2 * 8 + x.val % 2 * 4 + ch.val))
    (A.proj (3 + b.val) (y.val / 2 * 64 + x.val / 2) (y.val % 2 * 8 + x.val % 2 * 4 + ch.val)) = _
  rw [h1, h2, h3, h4]

/-- The image as the reference returns it. -/
theorem wi79 (b : Fin 3) (ch : Fin 4) (y : Fin 96) (x : Fin 128) :
    StableHlo.after (List.flatten [hostOps1 (F := Ideal)]) W (Proc.devRef .tc main_v79) (ix4 b ch y x) = A.img b.val ch.val y.val x.val := by
  rw [tail_eq, after_app, after_app]
  exact (v79_of _ b ch y x).trans (wh73 H b ch y x)

/-- The next latent. -/
theorem wi78 (b : Fin 3) (ch : Fin 4) (y : Fin 96) (x : Fin 128) :
    StableHlo.after (List.flatten [hostOps1 (F := Ideal)]) W (Proc.devRef .tc main_v78) (ix4 b ch y x) = A.lat b ch y x := by
  rw [tail_eq, after_app, after_app]
  refine (v78_of _ b ch y x).trans ?_
  have e9 : StableHlo.after (opsH (F := Ideal)) (StableHlo.after (opsG (F := Ideal)) W) (Proc.devRef .tc main_arg9) (ix4 b ch y x) = A.a9 (ix4 b ch y x) :=
    congrFun (((opsH_arg9 _).trans (opsG_arg9 W)).trans H.a9) _
  have e8 : StableHlo.after (opsH (F := Ideal)) (StableHlo.after (opsG (F := Ideal)) W) (Proc.devRef .tc main_arg8) (ix1 b) = A.a8 (ix1 b) :=
    congrFun (((opsH_arg8 _).trans (opsG_arg8 W)).trans H.a8) _
  have e7 : StableHlo.after (opsH (F := Ideal)) (StableHlo.after (opsG (F := Ideal)) W) (Proc.devRef .tc main_arg7) (ix1 b) = A.a7 (ix1 b) :=
    congrFun (((opsH_arg7 _).trans (opsG_arg7 W)).trans H.a7) _
  rw [e9, e8, e7, wh73 H]
  rfl

omit H

theorem wi41 (W : Valuation τ sig (Elt Ideal)) :
    StableHlo.after (List.flatten [hostOps1 (F := Ideal)]) W (Proc.devRef .tc main_v41) = W (Proc.devRef .tc main_v41) := by
  rw [tail_eq, after_app, after_app, opsI_v41, opsH_v41, opsG_v41]
theorem wi50 (W : Valuation τ sig (Elt Ideal)) :
    StableHlo.after (List.flatten [hostOps1 (F := Ideal)]) W (Proc.devRef .tc main_v50_0) = W (Proc.devRef .tc main_v50_0) := by
  rw [tail_eq, after_app, after_app, opsI_v50_0, opsH_v50_0, opsG_v50_0]

end Cert.Hand
-- ==== Proof.Proj.lean ====
module

public import proofs.«01_k».proof.Proof.Point

@[expose] public section

set_option maxRecDepth 16384

noncomputable section

/-!
The operands of the projection at a grid point, and the image value it computes.
-/

namespace Cert.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The projection's loads -/

theorem off1 : ∀ t : Fin cfg0.N, k0_off1 (grid0.coords t) = ![0, t.val / 12] := (by decide +kernel : ∀ t : Fin grid0.N, _)
theorem off2 : ∀ t : Fin cfg0.N, k0_off2 (grid0.coords t) = ![2, t.val / 12] := (by decide +kernel : ∀ t : Fin grid0.N, _)
theorem off3 : ∀ t : Fin cfg0.N, k0_off3 (grid0.coords t) = ![1, t.val / 12] := (by decide +kernel : ∀ t : Fin grid0.N, _)

theorem first0 (a : Fin 2) : (Shape.Idx.first (show 0 < S1x1.numel from by decide) a : ℕ) = 0 := by
  have := (Shape.Idx.first (show 0 < S1x1.numel from by decide) a).isLt
  fin_cases a <;> (change (_ : ℕ) < 1 at this; omega)

theorem pjt_w (t : Fin cfg0.N) (o : Fin 16) (d : Fin 1152) : (pjt m c t).w (ix2 o d) = (argsK m c).a3 (ix2 d o) := by
  unfold pjt pj
  dsimp only
  rw [View.readAt_eq_ld, (hs0_4 t).read_unread]
  refine (View.ld_unit_apply_of _ _ _ _ _ (ix2 o d : S16x1152.Idx) fun a => ?_).trans (blk4 m c t o d)
  fin_cases a <;> simp [ix2]

theorem pjt_ws (t : Fin cfg0.N) (o : Fin 16) : (pjt m c t).ws (ix2 o 0) = (argsK m c).a4 (ix1 o) := by
  unfold pjt pj
  dsimp only
  rw [View.readAt_eq_ld, (hs0_5 t).read_unread]
  refine (View.ld_unit_apply_of _ _ _ _ _ (ix2 o 0 : S16x1.Idx) fun a => ?_).trans (blk5 m c t o)
  fin_cases a <;> simp [ix2]

theorem pjt_bo (t : Fin cfg0.N) (o : Fin 16) : (pjt m c t).bo (ix2 o 0) = (argsK m c).a5 (ix1 o) := by
  unfold pjt pj
  dsimp only
  rw [View.readAt_eq_ld, (hs0_6 t).read_unread]
  refine (View.ld_unit_apply_of _ _ _ _ _ (ix2 o 0 : S16x1.Idx) fun a => ?_).trans (blk6 m c t o)
  fin_cases a <;> simp [ix2]

theorem sm_at (t : Fin cfg0.N) (off : Fin 2 → ℕ) (hoff : ∀ a, off a + S1x1.size a ≤ S3x3.size a) (k : Fin 3) (h : off = ![k.val, t.val / 12]) :
    View.readAt (Elt Ideal) (ms0_0 t).view (Rect.unit (s := S3x3) off S1x1.size hoff).toLoadRect ((hs0_0 t).unread (iblk m c 0 t)) (Shape.Idx.first (show 0 < S1x1.numel from by decide))
      = V m c main_v6 (ix2 k (⟨t.val / 12, by have := lt36 t; omega⟩ : Fin 3)) := by
  have := lt36 t
  rw [View.readAt_eq_ld, (hs0_0 t).read_unread]
  refine (View.ld_unit_apply_of _ _ _ _ _ (ix2 k (⟨t.val / 12, by omega⟩ : Fin 3) : S3x3.Idx) fun a => ?_).trans (blk0 m c t _ _)
  have f := first0 a
  have g := congrFun h a
  fin_cases a
  · change k.val = off 0 + _
    rw [f]; exact g.symm
  · change t.val / 12 = off 1 + _
    rw [f]; exact g.symm

theorem pjt_gd (t : Fin cfg0.N) : (pjt m c t).gd = (argsK m c).a6 (ix1 (⟨t.val / 12, by have := lt36 t; omega⟩ : Fin 3)) := by
  unfold pjt pj
  dsimp only
  exact (sm_at m c t _ _ 0 (off1 t)).trans (v6_at0 m c _)

theorem pjt_dt (t : Fin cfg0.N) : (pjt m c t).dt = (argsK m c).a8 (ix1 (⟨t.val / 12, by have := lt36 t; omega⟩ : Fin 3)) - (argsK m c).a7 (ix1 (⟨t.val / 12, by have := lt36 t; omega⟩ : Fin 3)) := by
  unfold pjt pj
  dsimp only
  exact congrArg₂ (fun x y : EReal => x - y) ((sm_at m c t _ _ 2 (off2 t)).trans (v6_at2 m c _)) ((sm_at m c t _ _ 1 (off3 t)).trans (v6_at1 m c _))

theorem pjt_lat (t : Fin cfg0.N) (a b e : ℕ) (ch : Fin 4) (j : Fin 128) :
    (pjt m c t).lat a b e (ix4 0 ch 0 j) = iblk m c 7 t (ix4 (0 : Fin 1) ch (⟨4 * (a % 2) + 2 * (e % 2) + b % 2, by omega⟩ : Fin 8) j) := by
  unfold pjt pj
  dsimp only
  rw [View.readAt_eq_ld, (hs0_7 t).read_unread]
  refine View.ld_unit_apply_of _ _ _ _ _ (ix4 (0 : Fin 1) ch (⟨4 * (a % 2) + 2 * (e % 2) + b % 2, by omega⟩ : Fin 8) j : S1x4x8x128.Idx) fun a => ?_
  fin_cases a <;> simp [ix4]

theorem vel_t (t : Fin cfg0.N) (s o : ℕ) : vel (pjt m c t) (tX m c t.val) (tG m c t.val) (tB m c t.val) s o = (argsK m c).velo (t.val / 12) (256 * (t.val % 12) + s) o := by
  have := lt36 t
  unfold vel Args.velo Args.proj
  rw [pjt_gd, pjt_ws, pjt_bo]
  simp only [pjt_w]
  have hb : (⟨t.val / 12 % 3, Nat.mod_lt _ (by decide)⟩ : Fin 3) = ⟨t.val / 12, by omega⟩ := Fin.ext (Nat.mod_eq_of_lt (by omega))
  rw [hb]
  rfl

theorem img_t (t : Fin cfg0.N) (ch : ℕ) (i : ℕ) (hi : i < 8) (j : ℕ) (hj : j < 128) : vel (pjt m c t) (tX m c t.val) (tG m c t.val) (tB m c t.val) (64 * (i / 2) + j / 2) (8 * (i % 2) + 4 * (j % 2) + ch)
    = (argsK m c).img (t.val / 12) ch (8 * (t.val % 12) + i) j := by
  rw [vel_t]
  unfold Args.img
  refine congrArg₂ ((argsK m c).velo (t.val / 12)) ?_ ?_
  · omega
  · omega

end Cert.Hand
-- ==== Proof.Final.lean ====
module

public import proofs.«01_k».proof.Proof.Proj

@[expose] public section

set_option maxRecDepth 16384

noncomputable section

/-!
The four arrays the launch ends with.
-/

namespace Cert.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The result arrays -/

/-- The images as one array. -/
def Args.imgF (A : Args) (i : S3x4x96x128.Idx) : EReal := A.img (i 0).val (i 1).val (i 2).val (i 3).val
/-- The next latents as one array. -/
def Args.latF (A : Args) (i : S3x4x96x128.Idx) : EReal := A.lat (i 0) (i 1) (i 2) (i 3)
/-- The codes as the launch holds them. -/
def Args.codeF (A : Args) (i : S2x3x3072x1152.Idx) : EReal := A.code ((i 0).val * 3 + (i 1).val) (i 2).val (i 3).val
/-- The scales as the launch holds them. -/
def Args.scaleF (A : Args) (i : S2x3x36x3072.Idx) : EReal := A.scale ((i 0).val * 3 + (i 1).val) (i 3).val (i 2).val
theorem Args.imgF_at (A : Args) (b : Fin 3) (ch : Fin 4) (y : Fin 96) (x : Fin 128) : A.imgF (ix4 b ch y x) = A.img b.val ch.val y.val x.val := rfl
theorem Args.latF_at (A : Args) (b : Fin 3) (ch : Fin 4) (y : Fin 96) (x : Fin 128) : A.latF (ix4 b ch y x) = A.lat b ch y x := rfl
theorem Args.codeF_at (A : Args) (r : Fin 2) (b : Fin 3) (s : Fin 3072) (d : Fin 1152) : A.codeF (ix4 r b s d) = A.code (r.val * 3 + b.val) s.val d.val := rfl
theorem Args.scaleF_at (A : Args) (r : Fin 2) (b : Fin 3) (k : Fin 36) (s : Fin 3072) : A.scaleF (ix4 r b k s) = A.scale (r.val * 3 + b.val) s.val k.val := rfl

variable {m c} (hA : (argsK m c).Ok)
include hA

theorem final8 : (dats m 0 c).arrAt 8 cfg0.N = (argsK m c).latF := by
  refine (dats m 0 c).arrAt_eq_of_covers 8 _ (by decide +kernel) fun t hf y => ?_
  blk_simp
  rw [after0_8]
  obtain ⟨l, a19, H, h8, -, -, -⟩ := outs_at hA t
  rw [h8]
  have := lt36 t
  change S1x4x8x128.Idx at y
  rename' y => z
  idx_vars z
  have hz : z0 = 0 := Subsingleton.elim _ _
  subst hz
  have e : (((cfg0.win 8).blk t).view.emb (ix4 (0 : Fin 1) z1 z2 z3 : S1x4x8x128.Idx) : S3x4x96x128.Idx) = ix4 (⟨t.val / 12, by omega⟩ : Fin 3) z1 (⟨8 * (t.val % 12) + z2.val, by omega⟩ : Fin 96) z3 := by
    blk_ext [idx8]
  refine Eq.trans ?_ (congrArg (argsK m c).latF e.symm)
  refine (HL_at H (pjt m c t) a19 (iblk m c 7 t) (fun a b e ch j => pjt_lat m c t a b e ch j) z1 z2 z3).trans ?_
  rw [img_t m c t _ _ z2.isLt _ z3.isLt, pjt_dt, blk7, Args.latF_at]
  rfl

theorem final9 : (dats m 0 c).arrAt 9 cfg0.N = (argsK m c).imgF := by
  refine (dats m 0 c).arrAt_eq_of_covers 9 _ (by decide +kernel) fun t hf y => ?_
  blk_simp
  rw [after0_9]
  obtain ⟨l, a19, H, -, h9, -, -⟩ := outs_at hA t
  rw [h9]
  have := lt36 t
  change S1x4x8x128.Idx at y
  rename' y => z
  idx_vars z
  have hz : z0 = 0 := Subsingleton.elim _ _
  subst hz
  have e : (((cfg0.win 9).blk t).view.emb (ix4 (0 : Fin 1) z1 z2 z3 : S1x4x8x128.Idx) : S3x4x96x128.Idx) = ix4 (⟨t.val / 12, by omega⟩ : Fin 3) z1 (⟨8 * (t.val % 12) + z2.val, by omega⟩ : Fin 96) z3 := by
    blk_ext [idx9]
  refine Eq.trans ?_ (congrArg (argsK m c).imgF e.symm)
  refine (HV_at H (pjt m c t) a19 z1 z2 z3).trans ?_
  rw [img_t m c t _ _ z2.isLt _ z3.isLt, Args.imgF_at]

theorem final10 : (dats m 0 c).arrAt 10 cfg0.N = (argsK m c).codeF := by
  refine (dats m 0 c).arrAt_eq_of_covers 10 _ (by decide +kernel) fun t hf y => ?_
  blk_simp
  rw [after0_10]
  obtain ⟨l, a19, H, -, -, h10, -⟩ := outs_at hA t
  rw [h10]
  have := lt36 t
  change S2x1x256x1152.Idx at y
  rename' y => z
  idx_vars z
  have hz : z1 = 0 := Subsingleton.elim _ _
  subst hz
  have e : (((cfg0.win 10).blk t).view.emb (ix4 z0 (0 : Fin 1) z2 z3 : S2x1x256x1152.Idx) : S2x3x3072x1152.Idx) = ix4 z0 (⟨t.val / 12, by omega⟩ : Fin 3) (⟨256 * (t.val % 12) + z2.val, by omega⟩ : Fin 3072) z3 := by
    blk_ext [idx10]
  refine Eq.trans ?_ (congrArg (argsK m c).codeF e.symm)
  rw [HQ_at H z0 z2 z3, Args.codeF_at]
  rfl

theorem final11 : (dats m 0 c).arrAt 11 cfg0.N = (argsK m c).scaleF := by
  refine (dats m 0 c).arrAt_eq_of_covers 11 _ (by decide +kernel) fun t hf y => ?_
  blk_simp
  rw [after0_11]
  obtain ⟨l, a19, H, -, -, -, h11⟩ := outs_at hA t
  rw [h11]
  have := lt36 t
  change S2x1x36x256.Idx at y
  rename' y => z
  idx_vars z
  have hz : z1 = 0 := Subsingleton.elim _ _
  subst hz
  have e : (((cfg0.win 11).blk t).view.emb (ix4 z0 (0 : Fin 1) z2 z3 : S2x1x36x256.Idx) : S2x3x36x3072.Idx) = ix4 z0 (⟨t.val / 12, by omega⟩ : Fin 3) z2 (⟨256 * (t.val % 12) + z3.val, by omega⟩ : Fin 3072) := by
    blk_ext [idx11]
  refine Eq.trans ?_ (congrArg (argsK m c).scaleF e.symm)
  rw [HC_at H z0 z2 z3, Args.scaleF_at]
  rfl

end Cert.Hand
-- ==== Proof.Tail.lean ====
module

public import proofs.«01_k».proof.Proof.Final

@[expose] public section

set_option maxRecDepth 16384

noncomputable section

/-!
The kernel's four results, after the host lines that follow the launch.
-/

namespace Cert.Hand

open Idealize.ShloMosaic Idealize.ShloMosaic.TcCoe Idealize.SL.Sem
open Cert.KernelIdeal Cert.KernelIdeal.Gen

/-- The codes. -/
def Args.codeR (A : Args) (i : (⟨3, ![6, 3072, 1152]⟩ : Shape).Idx) : EReal := A.code (i 0).val (i 1).val (i 2).val
/-- The scales. -/
def Args.scaleR (A : Args) (i : (⟨3, ![6, 3072, 36]⟩ : Shape).Idx) : EReal := A.scale (i 0).val (i 1).val (i 2).val

theorem lay_code (A : Args) : (shapeCast S6x3072x1152 (A.codeF : Vec Ideal S2x3x3072x1152 .fp8e4m3) shapeCasts_S2x3x3072x1152_S6x3072x1152) = A.codeR := by
  funext x
  change S6x3072x1152.Idx at x
  rename' x => z
  idx_vars z
  pointwise
  refine (A.codeF_at _ _ _ _).trans ?_
  show A.code _ _ _ = A.code _ _ _
  congr 1
  show z0.val / 3 * 3 + z0.val % 3 = z0.val
  omega

theorem lay_scale (A : Args) : (transpose S6x3072x36 [0, 2, 1] (shapeCast S6x36x3072 (A.scaleF : Vec Ideal S2x3x36x3072 .f32) shapeCasts_S2x3x36x3072_S6x36x3072) transposes_S6x36x3072_S6x3072x36_0_2_1) = A.scaleR := by
  funext x
  change S6x3072x36.Idx at x
  rename' x => z
  idx_vars z
  pointwise
  refine (A.scaleF_at _ _ _ _).trans ?_
  show A.scale _ _ _ = A.scale _ _ _
  congr 1
  show z0.val / 3 * 3 + z0.val % 3 = z0.val
  omega

variable {m : (ℓ : Loc nD τ sig) → Buf (Elt Ideal) ℓ} (c : Dev nD) (hA : (argsK m c).Ok)

theorem arr_inj : Function.Injective (Pipeline.arrRef spec0) := by decide

include hA

theorem wa9 : Pipeline.withArrays (cfgs 0).spec c (V0 m c) (fun w => (dats m 0 c).arrAt w (cfgs 0).N) (Proc.devRef .tc main_v10_1) = (argsK m c).imgF :=
  (Pipeline.withArrays_arr spec0 arr_inj c (V0 m c) (fun w => (dats m 0 c).arrAt w cfg0.N) 9).trans (final9 hA)

theorem wa10 : Pipeline.withArrays (cfgs 0).spec c (V0 m c) (fun w => (dats m 0 c).arrAt w (cfgs 0).N) (Proc.devRef .tc main_v10_2) = (argsK m c).codeF :=
  (Pipeline.withArrays_arr spec0 arr_inj c (V0 m c) (fun w => (dats m 0 c).arrAt w cfg0.N) 10).trans (final10 hA)

theorem wa11 : Pipeline.withArrays (cfgs 0).spec c (V0 m c) (fun w => (dats m 0 c).arrAt w (cfgs 0).N) (Proc.devRef .tc main_v10_3) = (argsK m c).scaleF :=
  (Pipeline.withArrays_arr spec0 arr_inj c (V0 m c) (fun w => (dats m 0 c).arrAt w cfg0.N) 11).trans (final11 hA)

theorem tail14 : Pipeline.afterTail₀ cfgs (dats m) 0 (V0 m) [hostOps1] c main_v14 = (argsK m c).imgF := by
  unfold Pipeline.afterTail₀
  simp only [hostOps1, List.flatten_cons, List.flatten_nil, List.append_nil]
  after_results
  rw [wa9 c hA]
  rfl

theorem tail11 : Pipeline.afterTail₀ cfgs (dats m) 0 (V0 m) [hostOps1] c main_v11 = (argsK m c).codeR := by
  unfold Pipeline.afterTail₀
  simp only [hostOps1, List.flatten_cons, List.flatten_nil, List.append_nil]
  after_results
  rw [wa10 c hA]
  exact lay_code _

theorem tail13 : Pipeline.afterTail₀ cfgs (dats m) 0 (V0 m) [hostOps1] c main_v13 = (argsK m c).scaleR := by
  unfold Pipeline.afterTail₀
  simp only [hostOps1, List.flatten_cons, List.flatten_nil, List.append_nil]
  after_results
  rw [wa11 c hA]
  exact lay_scale _

omit hA

/-- The kernel's run: the four results, the arguments unchanged. -/
theorem ker_run (m : (ℓ : Loc nD τ sig) → Buf (Elt Ideal) ℓ) (ρ : Dev nD → PrngReg) (hA : ∀ c, (argsK m c).Ok) :
    θ_run (defs (F := Ideal)) (onTc (τ := τ) (main (F := Ideal))) ⟨m, fun _ => 0, ρ⟩ (fun r => ∀ c : Dev nD,
      (r.2.mem ((c.tc : Thread nD τ).loc main_v10_0) = (argsK m c).latF
      ∧ r.2.mem ((c.tc : Thread nD τ).loc main_v14) = (argsK m c).imgF
      ∧ r.2.mem ((c.tc : Thread nD τ).loc main_v11) = (argsK m c).codeR
      ∧ r.2.mem ((c.tc : Thread nD τ).loc main_v13) = (argsK m c).scaleR)) := by
  refine θ_run_mono (run_main m ρ) ?_
  intro r h c
  obtain ⟨h1, h2⟩ := h c
  exact ⟨(h1 8).trans (final8 (hA c)), (h2 main_v14 (by decide)).trans (tail14 c (hA c)), (h2 main_v11 (by decide)).trans (tail11 c (hA c)),
    (h2 main_v13 (by decide)).trans (tail13 c (hA c))⟩

end Cert.Hand
-- ==== Proof.RefRun.lean ====
module

public import proofs.«01_k».proof.Proof.RefArr
public import proofs.«01_k».proof.Proof.RefTail
public import proofs.«01_k».proof.Proof.Tail

@[expose] public section

set_option maxRecDepth 16384

noncomputable section

/-!
The reference's four results.
-/

namespace Cert.Hand

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-- What the buffers hold when the casts are done. -/
def WF : Valuation τ sig (Elt Ideal) := Pipeline.withArrays (cfgs 0).spec c (V0 m c) (fun w => (dats m 0 c).arrAt w (cfgs 0).N)

theorem rarr_inj : Function.Injective (Pipeline.arrRef spec0) := by decide

theorem wf50 : WF m c (Proc.devRef .tc main_v50_0) = codeV m c :=
  (Pipeline.withArrays_arr spec0 rarr_inj c (V0 m c) (fun w => (dats m 0 c).arrAt w cfg0.N) 2).trans (rfinal2 m c)
theorem wf51 : WF m c (Proc.devRef .tc main_v50_1) = codeV m c :=
  (Pipeline.withArrays_arr spec0 rarr_inj c (V0 m c) (fun w => (dats m 0 c).arrAt w cfg0.N) 3).trans (rfinal3 m c)
theorem wf52 : WF m c (Proc.devRef .tc main_v50_2) = weightV m c :=
  (Pipeline.withArrays_arr spec0 rarr_inj c (V0 m c) (fun w => (dats m 0 c).arrAt w cfg0.N) 4).trans (rfinal4 m c)
theorem wf41 : WF m c (Proc.devRef .tc main_v41) = V0 m c (Proc.devRef .tc main_v41) :=
  Pipeline.withArrays_of_ne _ c (V0 m c) _ main_v41 (by exact (by decide : ∀ w, Pipeline.arrRef spec0 w ≠ main_v41))
theorem wfa4 : WF m c (Proc.devRef .tc main_arg4) = (argsR m c).a4 :=
  (Pipeline.withArrays_of_ne _ c (V0 m c) _ main_arg4 (by exact (by decide : ∀ w, Pipeline.arrRef spec0 w ≠ main_arg4))).trans (V_main_arg4 m c)
theorem wfa5 : WF m c (Proc.devRef .tc main_arg5) = (argsR m c).a5 :=
  (Pipeline.withArrays_of_ne _ c (V0 m c) _ main_arg5 (by exact (by decide : ∀ w, Pipeline.arrRef spec0 w ≠ main_arg5))).trans (V_main_arg5 m c)
theorem wfa6 : WF m c (Proc.devRef .tc main_arg6) = (argsR m c).a6 :=
  (Pipeline.withArrays_of_ne _ c (V0 m c) _ main_arg6 (by exact (by decide : ∀ w, Pipeline.arrRef spec0 w ≠ main_arg6))).trans (V_main_arg6 m c)
theorem wfa7 : WF m c (Proc.devRef .tc main_arg7) = (argsR m c).a7 :=
  (Pipeline.withArrays_of_ne _ c (V0 m c) _ main_arg7 (by exact (by decide : ∀ w, Pipeline.arrRef spec0 w ≠ main_arg7))).trans (V_main_arg7 m c)
theorem wfa8 : WF m c (Proc.devRef .tc main_arg8) = (argsR m c).a8 :=
  (Pipeline.withArrays_of_ne _ c (V0 m c) _ main_arg8 (by exact (by decide : ∀ w, Pipeline.arrRef spec0 w ≠ main_arg8))).trans (V_main_arg8 m c)
theorem wfa9 : WF m c (Proc.devRef .tc main_arg9) = (argsR m c).a9 :=
  (Pipeline.withArrays_of_ne _ c (V0 m c) _ main_arg9 (by exact (by decide : ∀ w, Pipeline.arrRef spec0 w ≠ main_arg9))).trans (V_main_arg9 m c)

variable {m c} (hA : (argsR m c).Ok)
include hA

theorem code_at (R : Fin 6) (s : Fin 3072) (d : Fin 1152) : codeV m c (ix3 R s d) = (argsR m c).code R.val s.val d.val := by
  unfold codeV
  have e : V m c main_v49 = WE m c (Proc.devRef .tc main_v49) := congrFun (V0_eq m c) _
  exact (congrFun e (ix3 R s d : S6x3072x1152.Idx)).trans (we49 hA R s d)

theorem scale_at (R : Fin 6) (s : Fin 3072) (k : Fin 36) : WF m c (Proc.devRef .tc main_v41) (ix3 R s k) = (argsR m c).scale R.val s.val k.val := by
  have e : WF m c (Proc.devRef .tc main_v41) = WE m c (Proc.devRef .tc main_v41) := (wf41 m c).trans (congrFun (V0_eq m c) _)
  exact (congrFun e (ix3 R s k : S6x3072x36.Idx)).trans (we41 hA R s k)

theorem found : Found (WF m c) (argsR m c) where
  q R s d := (congrFun (wf51 m c) (ix3 R s d : S6x3072x1152.Idx)).trans (code_at hA R s d)
  s R s k := scale_at hA R s k
  w d o := (congrFun (wf52 m c) (ix2 d o : S1152x16.Idx)).trans (congrFun (V_main_arg3 m c) (ix2 d o : S1152x16.Idx))
  a4 := wfa4 m c
  a5 := wfa5 m c
  a6 := wfa6 m c
  a7 := wfa7 m c
  a8 := wfa8 m c
  a9 := wfa9 m c

theorem rtail78 : Pipeline.afterTail₀ cfgs (dats m) 0 (V0 m) [hostOps1] c main_v78 = (argsR m c).latF := by
  unfold Pipeline.afterTail₀
  funext y
  change S3x4x96x128.Idx at y
  rename' y => z
  idx_vars z
  exact (wi78 (found hA) z0 z1 z2 z3).trans (Args.latF_at _ _ _ _ _).symm

theorem rtail79 : Pipeline.afterTail₀ cfgs (dats m) 0 (V0 m) [hostOps1] c main_v79 = (argsR m c).imgF := by
  unfold Pipeline.afterTail₀
  funext y
  change S3x4x96x128.Idx at y
  rename' y => z
  idx_vars z
  exact (wi79 (found hA) z0 z1 z2 z3).trans (Args.imgF_at _ _ _ _ _).symm

theorem rtail41 : Pipeline.afterTail₀ cfgs (dats m) 0 (V0 m) [hostOps1] c main_v41 = (argsR m c).scaleR := by
  unfold Pipeline.afterTail₀
  funext y
  change S6x3072x36.Idx at y
  rename' y => z
  idx_vars z
  exact (congrFun (wi41 (WF m c)) (ix3 z0 z1 z2 : S6x3072x36.Idx)).trans (scale_at hA z0 z1 z2)

theorem rcode : codeV m c = (argsR m c).codeR := by
  funext y
  change S6x3072x1152.Idx at y
  rename' y => z
  idx_vars z
  exact code_at hA z0 z1 z2

omit hA

/-- The reference's run: the four results. -/
theorem ref_run (m : (ℓ : Loc nD τ sig) → Buf (Elt Ideal) ℓ) (ρ : Dev nD → PrngReg) (hA : ∀ c, (argsR m c).Ok) :
    θ_run (defs (F := Ideal)) (onTc (τ := τ) (main (F := Ideal))) ⟨m, fun _ => 0, ρ⟩ (fun r => ∀ c : Dev nD,
      (r.2.mem ((c.tc : Thread nD τ).loc main_v78) = (argsR m c).latF
      ∧ r.2.mem ((c.tc : Thread nD τ).loc main_v79) = (argsR m c).imgF
      ∧ r.2.mem ((c.tc : Thread nD τ).loc main_v50_0) = (argsR m c).codeR
      ∧ r.2.mem ((c.tc : Thread nD τ).loc main_v41) = (argsR m c).scaleR)) := by
  refine θ_run_mono (run_main m ρ) ?_
  intro r h c
  obtain ⟨h1, h2⟩ := h c
  exact ⟨(h2 main_v78 (by decide)).trans (rtail78 (hA c)), (h2 main_v79 (by decide)).trans (rtail79 (hA c)),
    ((h1 2).trans (rfinal2 m c)).trans (rcode (hA c)), (h2 main_v41 (by decide)).trans (rtail41 (hA c))⟩

end Cert.Hand
-- ==== Proof.Algebraic.lean ====
module

public import proofs.«01_k».proof.Proof.PreOk
public import proofs.«01_k».proof.Proof.RefRun

@[expose] public section

set_option maxRecDepth 16384

noncomputable section

/-!
The kernel and the reference end with the same four results.
-/

namespace Cert.Hand

open Idealize.ShloMosaic Idealize.ShloMosaic.TcCoe Idealize.SL.Sem

theorem Args.eq_of {A B : Args} (h0 : A.a0 = B.a0) (h1 : A.a1 = B.a1) (h2 : A.a2 = B.a2) (h3 : A.a3 = B.a3) (h4 : A.a4 = B.a4)
    (h5 : A.a5 = B.a5) (h6 : A.a6 = B.a6) (h7 : A.a7 = B.a7) (h8 : A.a8 = B.a8) (h9 : A.a9 = B.a9) : A = B := by
  cases A
  cases B
  cases h0; cases h1; cases h2; cases h3; cases h4; cases h5; cases h6; cases h7; cases h8; cases h9
  rfl

theorem algebraic : Cert.algebraic_KernelIdeal_ReferenceIdeal_pre__finite (hKernelIdeal := Cert.KernelIdeal.Gen.facts)
    (hReferenceIdeal := Cert.ReferenceIdeal.Gen.facts) (hPre__finite := preFacts) := by
  intro m g m' g' hpre hargs
  have hK : ∀ c, (argsK m c).Ok := ok_of_pre m hpre
  have hE : ∀ c, argsR m' c = argsK m c := fun c => by
    obtain ⟨h0, h1, h2, h3, h4, h5, h6, h7, h8, h9⟩ := hargs c
    exact Args.eq_of h0 h1 h2 h3 h4 h5 h6 h7 h8 h9
  have hR : ∀ c, (argsR m' c).Ok := fun c => by rw [hE]; exact hK c
  refine ⟨fun c => (argsK m c).latF, fun c => (argsK m c).imgF, fun c => (argsK m c).codeR, fun c => (argsK m c).scaleR, ?_, ?_⟩
  · refine θ_run_mono (θ_run_and (ker_run m g hK) (Cert.KernelIdeal.Gen.unchanged m g)) ?_
    intro r h c
    obtain ⟨k0, k1, k2, k3⟩ := h.1 c
    exact ⟨k0, k1, k2, k3, h.2 c⟩
  · refine θ_run_mono (θ_run_and (ref_run m' g' hR) (Cert.ReferenceIdeal.Gen.unchanged m' g')) ?_
    intro r h c
    obtain ⟨k0, k1, k2, k3⟩ := h.1 c
    rw [hE c] at k0 k1 k2 k3
    exact ⟨k0, k1, k2, k3, h.2 c⟩

end Cert.Hand
-- ==== Proof.lean ====
/- The claims: each program runs without fault and leaves its arguments alone, the ideal kernel is the kernel over the extended reals, and it agrees there with the reference on all four results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Hand.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  IdealRules.named_const.statement Cert.KernelIdeal.κ "inv_d" .f32 0x3A638E39#32 ((1152⁻¹ : ℝ) : EReal) rfl,
  Cert.Hand.algebraic⟩

end Cert.Proof

end
